-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_and_tokens [hPre_weights_and_tokens : Cert.Pre_weights_and_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_weights_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_and_tokens [hPre_weights_and_tokens : Cert.Pre_weights_and_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_weights_and_tokens [hKernelIdeal : Cert.KernelIdeal.Facts] [hPre_weights_and_tokens : Cert.Pre_weights_and_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_and_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_weights_and_tokens [hReferenceIdeal : Cert.ReferenceIdeal.Facts] [hPre_weights_and_tokens : Cert.Pre_weights_and_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_and_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_weights_and_tokens [hKernelIdeal : Cert.KernelIdeal.Facts] [hReferenceIdeal : Cert.ReferenceIdeal.Facts] [hPre_weights_and_tokens : Cert.Pre_weights_and_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_and_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_weights_and_tokens : Cert.Pre_weights_and_tokens.Facts),
    quiescent_Kernel (hKernel := hKernel)
    ∧ quiescent_KernelIdeal (hKernelIdeal := hKernelIdeal)
    ∧ quiescent_KernelIdeal_pre_weights_and_tokens (hKernelIdeal := hKernelIdeal) (hPre_weights_and_tokens := hPre_weights_and_tokens)
    ∧ quiescent_ReferenceIdeal (hReferenceIdeal := hReferenceIdeal)
    ∧ quiescent_ReferenceIdeal_pre_weights_and_tokens (hReferenceIdeal := hReferenceIdeal) (hPre_weights_and_tokens := hPre_weights_and_tokens)
    ∧ preserves_Kernel_KernelIdeal
    ∧ algebraic_KernelIdeal_ReferenceIdeal_pre_weights_and_tokens (hKernelIdeal := hKernelIdeal) (hReferenceIdeal := hReferenceIdeal) (hPre_weights_and_tokens := hPre_weights_and_tokens)
-- ==== Pre_weights_and_tokens.lean ====
abbrev S512 : Shape := ⟨1, ![512]⟩
abbrev S1024x10240 : Shape := ⟨2, ![1024, 10240]⟩
abbrev S1024 : Shape := ⟨1, ![1024]⟩
abbrev S20x64 : Shape := ⟨2, ![20, 64]⟩
abbrev S64 : Shape := ⟨1, ![64]⟩
abbrev S_ : Shape := ⟨0, ![]⟩
abbrev S512x1x1 : Shape := ⟨3, ![512, 1, 1]⟩
abbrev S1x20x64 : Shape := ⟨3, ![1, 20, 64]⟩
abbrev S512x20x64 : Shape := ⟨3, ![512, 20, 64]⟩
abbrev S1x1x64 : Shape := ⟨3, ![1, 1, 64]⟩

class Facts : Prop where
  bcast_S_S512 : S_.BroadcastsInDim S512 (![] : Fin 0 → Fin S512.rank)
  bcast_S_S20x64 : S_.BroadcastsInDim S20x64 (![] : Fin 0 → Fin S20x64.rank)
  bcast_S_S64 : S_.BroadcastsInDim S64 (![] : Fin 0 → Fin S64.rank)
  bcast_S512_S512x1x1_0 : S512.BroadcastsInDim S512x1x1 (![0] : Fin 1 → Fin S512x1x1.rank)
  bcast_S20x64_S1x20x64_1_2 : S20x64.BroadcastsInDim S1x20x64 (![1, 2] : Fin 2 → Fin S1x20x64.rank)
  bcast_S512x1x1_S512x20x64_0_1_2 : S512x1x1.BroadcastsInDim S512x20x64 (![0, 1, 2] : Fin 3 → Fin S512x20x64.rank)
  bcast_S1x20x64_S512x20x64_0_1_2 : S1x20x64.BroadcastsInDim S512x20x64 (![0, 1, 2] : Fin 3 → Fin S512x20x64.rank)
  bcast_S64_S1x1x64_2 : S64.BroadcastsInDim S1x1x64 (![2] : Fin 1 → Fin S1x1x64.rank)
  bcast_S1x1x64_S512x20x64_0_1_2 : S1x1x64.BroadcastsInDim S512x20x64 (![0, 1, 2] : Fin 3 → Fin S512x20x64.rank)

variable [Facts]

def fn_part1 {F : FTy → Type} [FloatOps F] (main_v13 : IVec S64 1) (main_v18 : IVec S512x20x64 1) : IVec S512x20x64 1 :=
  let main_v19 : IVec S1x1x64 1 := broadcastInDim S1x1x64 ![2] bcast_S64_S1x1x64_2 main_v13
  let main_v20 : IVec S512x20x64 1 := broadcastInDim S512x20x64 ![0, 1, 2] bcast_S1x1x64_S512x20x64_0_1_2 main_v19
  let main_v21 : IVec S512x20x64 1 := andi main_v18 main_v20
  main_v21

def fn {F : FTy → Type} [FloatOps F] (main_arg0 : IVec S512 32) (main_arg1 : FVec F S1024x10240 .f32) (main_arg2 : FVec F S1024 .f32) (main_arg3 : FVec F S20x64 .f32) (main_arg4 : FVec F S64 .f32) : IVec S512x20x64 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 20#32
  let main_v2 : IVec S512 32 := broadcastInDim S512 ![] bcast_S_S512 main_c_0
  let main_v3 : IVec S512 1 := cmpi .slt main_arg0 main_v2
  let main_v4 : IVec S512 1 := andi main_v1 main_v3
  let main_v5 : FVec F S20x64 .f32 := Host.absf main_arg3
  let main_cst : FVec F S_ .f32 := constant S_ .f32 0x7F800000#32
  let main_v6 : FVec F S20x64 .f32 := broadcastInDim S20x64 ![] bcast_S_S20x64 main_cst
  let main_v7 : IVec S20x64 1 := cmpf .olt main_v5 main_v6
  let main_cst_1 : FVec F S_ .f32 := constant S_ .f32 0x00000000#32
  let main_v8 : FVec F S20x64 .f32 := broadcastInDim S20x64 ![] bcast_S_S20x64 main_cst_1
  let main_v9 : IVec S20x64 1 := cmpf .une main_arg3 main_v8
  let main_v10 : IVec S20x64 1 := andi main_v7 main_v9
  let main_v11 : FVec F S64 .f32 := Host.absf main_arg4
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : IVec S512x1x1 1 := broadcastInDim S512x1x1 ![0] bcast_S512_S512x1x1_0 main_v4
  let main_v15 : IVec S1x20x64 1 := broadcastInDim S1x20x64 ![1, 2] bcast_S20x64_S1x20x64_1_2 main_v10
  let main_v16 : IVec S512x20x64 1 := broadcastInDim S512x20x64 ![0, 1, 2] bcast_S512x1x1_S512x20x64_0_1_2 main_v14
  let main_v17 : IVec S512x20x64 1 := broadcastInDim S512x20x64 ![0, 1, 2] bcast_S1x20x64_S512x20x64_0_1_2 main_v15
  let main_v18 : IVec S512x20x64 1 := andi main_v16 main_v17
  fn_part1 (F := F) main_v13 main_v18
-- ==== Kernel.lean ====
abbrev S512 : Shape := ⟨1, ![512]⟩
abbrev S1024x10240 : Shape := ⟨2, ![1024, 10240]⟩
abbrev S1024 : Shape := ⟨1, ![1024]⟩
abbrev S20x64 : Shape := ⟨2, ![20, 64]⟩
abbrev S64 : Shape := ⟨1, ![64]⟩
abbrev S512x1 : Shape := ⟨2, ![512, 1]⟩
abbrev S1x64 : Shape := ⟨2, ![1, 64]⟩
abbrev S512x32 : Shape := ⟨2, ![512, 32]⟩
abbrev S1x128 : Shape := ⟨2, ![1, 128]⟩
abbrev S512x20 : Shape := ⟨2, ![512, 20]⟩
abbrev S1x10240 : Shape := ⟨2, ![1, 10240]⟩
abbrev S1x512 : Shape := ⟨2, ![1, 512]⟩
abbrev S1024x1 : Shape := ⟨2, ![1024, 1]⟩
abbrev S1024x512 : Shape := ⟨2, ![1024, 512]⟩
abbrev S_ : Shape := ⟨0, ![]⟩
abbrev S20 : Shape := ⟨1, ![20]⟩
abbrev S20x1 : Shape := ⟨2, ![20, 1]⟩
abbrev S20x20 : Shape := ⟨2, ![20, 20]⟩
abbrev S1x20 : Shape := ⟨2, ![1, 20]⟩
abbrev S1 : Shape := ⟨1, ![1]⟩
abbrev S1x1 : Shape := ⟨2, ![1, 1]⟩
abbrev S512x11 : Shape := ⟨2, ![512, 11]⟩
abbrev S1x42 : Shape := ⟨2, ![1, 42]⟩
abbrev S256x10240 : Shape := ⟨2, ![256, 10240]⟩
abbrev S256x1 : Shape := ⟨2, ![256, 1]⟩
abbrev S256x512 : Shape := ⟨2, ![256, 512]⟩
abbrev S256 : Shape := ⟨1, ![256]⟩
abbrev S256x32 : Shape := ⟨2, ![256, 32]⟩
abbrev S256x20 : Shape := ⟨2, ![256, 20]⟩
abbrev S256x64 : Shape := ⟨2, ![256, 64]⟩
abbrev S256x128 : Shape := ⟨2, ![256, 128]⟩

abbrev nBuf : Space → Nat
  | .hbm => 26
  | .vmem => 24
  | .smem => 0
  | _ => 0

abbrev bufTy : (tb : Table) → Fin (tcTables nBuf tb) → BufTy
  | .hbm, ⟨0, _⟩ => ⟨S512, .i32⟩
  | .hbm, ⟨1, _⟩ => ⟨S1024x10240, .f32⟩
  | .hbm, ⟨2, _⟩ => ⟨S1024, .f32⟩
  | .hbm, ⟨3, _⟩ => ⟨S20x64, .f32⟩
  | .hbm, ⟨4, _⟩ => ⟨S64, .f32⟩
  | .hbm, ⟨5, _⟩ => ⟨S512x1, .i32⟩
  | .hbm, ⟨6, _⟩ => ⟨S1x64, .f32⟩
  | .hbm, ⟨7, _⟩ => ⟨S512x32, .f32⟩
  | .hbm, ⟨8, _⟩ => ⟨S20x64, .f32⟩
  | .hbm, ⟨9, _⟩ => ⟨S1x128, .f32⟩
  | .hbm, ⟨10, _⟩ => ⟨S512x20, .f32⟩
  | .hbm, ⟨11, _⟩ => ⟨S1x10240, .f32⟩
  | .hbm, ⟨12, _⟩ => ⟨S1x64, .f32⟩
  | .hbm, ⟨13, _⟩ => ⟨S1x512, .i32⟩
  | .hbm, ⟨14, _⟩ => ⟨S1024x1, .f32⟩
  | .hbm, ⟨15, _⟩ => ⟨S1024x512, .i32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .i1⟩
  | .hbm, ⟨24, _⟩ => ⟨S1024, .i1⟩
  | .hbm, ⟨25, _⟩ => ⟨S1024, .f32⟩
  | .local _ .vmem, ⟨0, _⟩ => ⟨S512x1, .i32⟩
  | .local _ .vmem, ⟨1, _⟩ => ⟨S20x64, .f32⟩
  | .local _ .vmem, ⟨2, _⟩ => ⟨S1x64, .f32⟩
  | .local _ .vmem, ⟨3, _⟩ => ⟨S512x32, .f32⟩
  | .local _ .vmem, ⟨4, _⟩ => ⟨S20x64, .f32⟩
  | .local _ .vmem, ⟨5, _⟩ => ⟨S1x128, .f32⟩
  | .local _ .vmem, ⟨6, _⟩ => ⟨S256x10240, .f32⟩
  | .local _ .vmem, ⟨7, _⟩ => ⟨S256x10240, .f32⟩
  | .local _ .vmem, ⟨8, _⟩ => ⟨S1x10240, .f32⟩
  | .local _ .vmem, ⟨9, _⟩ => ⟨S512x32, .f32⟩
  | .local _ .vmem, ⟨10, _⟩ => ⟨S20x64, .f32⟩
  | .local _ .vmem, ⟨11, _⟩ => ⟨S1x128, .f32⟩
  | .local _ .vmem, ⟨12, _⟩ => ⟨S1x64, .f32⟩
  | .local _ .vmem, ⟨13, _⟩ => ⟨S1x512, .i32⟩
  | .local _ .vmem, ⟨14, _⟩ => ⟨S256x1, .f32⟩
  | .local _ .vmem, ⟨15, _⟩ => ⟨S256x1, .f32⟩
  | .local _ .vmem, ⟨16, _⟩ => ⟨S256x512, .i32⟩
  | .local _ .vmem, ⟨17, _⟩ => ⟨S256x512, .i32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_call0_v2_2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0_2 : Ref sig .tc := ⟨.hbm, 15, rfl⟩
abbrev main_call0_v8_1 : Ref sig .tc := ⟨.hbm, 16, rfl⟩
abbrev main_call0_v8_2 : Ref sig .tc := ⟨.hbm, 17, rfl⟩
abbrev main_call0_v8_3 : Ref sig .tc := ⟨.hbm, 18, rfl⟩
abbrev main_v0_0 : Ref sig .tc := ⟨.hbm, 19, rfl⟩
abbrev main_call0_v10 : Ref sig .tc := ⟨.hbm, 20, rfl⟩
abbrev main_call0_cst : Ref sig .tc := ⟨.hbm, 21, rfl⟩
abbrev main_call0_v11 : Ref sig .tc := ⟨.hbm, 22, rfl⟩
abbrev main_call0_v12 : Ref sig .tc := ⟨.hbm, 23, rfl⟩
abbrev main_v0_1 : Ref sig .tc := ⟨.hbm, 24, rfl⟩
abbrev main_v0_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := .none

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10240 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S20x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S512 : Shape := ⟨1, ![512]⟩
abbrev S1024x10240 : Shape := ⟨2, ![1024, 10240]⟩
abbrev S1024 : Shape := ⟨1, ![1024]⟩
abbrev S20x64 : Shape := ⟨2, ![20, 64]⟩
abbrev S64 : Shape := ⟨1, ![64]⟩
abbrev S512x1 : Shape := ⟨2, ![512, 1]⟩
abbrev S1x20 : Shape := ⟨2, ![1, 20]⟩
abbrev S512x20 : Shape := ⟨2, ![512, 20]⟩
abbrev S1x512x20 : Shape := ⟨3, ![1, 512, 20]⟩
abbrev S1x512x64 : Shape := ⟨3, ![1, 512, 64]⟩
abbrev S_ : Shape := ⟨0, ![]⟩
abbrev S1x64 : Shape := ⟨2, ![1, 64]⟩
abbrev S1 : Shape := ⟨1, ![1]⟩
abbrev S1x512 : Shape := ⟨2, ![1, 512]⟩
abbrev S1x512x1 : Shape := ⟨3, ![1, 512, 1]⟩
abbrev S10240 : Shape := ⟨1, ![10240]⟩
abbrev S1x10240 : Shape := ⟨2, ![1, 10240]⟩
abbrev S1x1x1x512 : Shape := ⟨4, ![1, 1, 1, 512]⟩
abbrev S1024x1x1x512 : Shape := ⟨4, ![1024, 1, 1, 512]⟩
abbrev S1024x512 : Shape := ⟨2, ![1024, 512]⟩
abbrev S1024x1 : Shape := ⟨2, ![1024, 1]⟩
abbrev S1024x2 : Shape := ⟨2, ![1024, 2]⟩
abbrev S1024x512x1 : Shape := ⟨3, ![1024, 512, 1]⟩
abbrev S1x1x20 : Shape := ⟨3, ![1, 1, 20]⟩
abbrev S1024x512x20 : Shape := ⟨3, ![1024, 512, 20]⟩
abbrev S1024x512x64 : Shape := ⟨3, ![1024, 512, 64]⟩
abbrev S1024x64 : Shape := ⟨2, ![1024, 64]⟩
abbrev S1024x3 : Shape := ⟨2, ![1024, 3]⟩

abbrev nBuf : Space → Nat
  | .hbm => 315
  | .vmem => 0
  | .smem => 0
  | _ => 0

abbrev hbmTy0_0 (i : Nat) : BufTy := match i % 128 with
  | 0 => ⟨S512, .i32⟩
  | 1 => ⟨S1024x10240, .f32⟩
  | 2 => ⟨S1024, .f32⟩
  | 3 => ⟨S20x64, .f32⟩
  | 4 => ⟨S64, .f32⟩
  | 5 => ⟨S512x1, .i32⟩
  | 6 => ⟨S1x20, .i32⟩
  | 7 => ⟨S512x20, .i32⟩
  | 8 => ⟨S512x20, .i32⟩
  | 9 => ⟨S512x20, .i1⟩
  | 10 => ⟨S512x20, .f32⟩
  | 11 => ⟨S1x512x20, .f32⟩
  | 12 => ⟨S1x512x64, .f32⟩
  | 13 => ⟨S_, .f32⟩
  | 14 => ⟨S1x512x64, .f32⟩
  | 15 => ⟨S1x512x64, .f32⟩
  | 16 => ⟨S_, .f32⟩
  | 17 => ⟨S1x512x64, .f32⟩
  | 18 => ⟨S1x512x64, .i1⟩
  | 19 => ⟨S_, .f32⟩
  | 20 => ⟨S1x512x64, .f32⟩
  | 21 => ⟨S1x512x64, .i1⟩
  | 22 => ⟨S_, .f32⟩
  | 23 => ⟨S1x512x64, .f32⟩
  | 24 => ⟨S_, .f32⟩
  | 25 => ⟨S1x512x64, .f32⟩
  | 26 => ⟨S_, .f32⟩
  | 27 => ⟨S1x512x64, .f32⟩
  | 28 => ⟨S1x512x64, .f32⟩
  | 29 => ⟨S1x512x64, .f32⟩
  | 30 => ⟨S_, .f32⟩
  | 31 => ⟨S1x64, .f32⟩
  | 32 => ⟨S_, .f32⟩
  | 33 => ⟨S1x64, .f32⟩
  | 34 => ⟨S1x64, .f32⟩
  | 35 => ⟨S1x64, .f32⟩
  | 36 => ⟨S1x64, .f32⟩
  | 37 => ⟨S_, .f32⟩
  | 38 => ⟨S1, .f32⟩
  | 39 => ⟨S_, .f32⟩
  | 40 => ⟨S_, .f32⟩
  | 41 => ⟨S_, .f32⟩
  | 42 => ⟨S1, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x512x64, .f32⟩
  | 49 => ⟨S1x512x64, .f32⟩
  | 50 => ⟨S1x512x20, .f32⟩
  | 51 => ⟨S1x512x20, .f32⟩
  | 52 => ⟨S_, .f32⟩
  | 53 => ⟨S1x512, .f32⟩
  | 54 => ⟨S1x512x1, .f32⟩
  | 55 => ⟨S1x512x20, .f32⟩
  | 56 => ⟨S1x512x20, .f32⟩
  | 57 => ⟨S512x20, .f32⟩
  | 58 => ⟨S10240, .f32⟩
  | 59 => ⟨S_, .f32⟩
  | 60 => ⟨S10240, .f32⟩
  | 61 => ⟨S10240, .f32⟩
  | 62 => ⟨S_, .f32⟩
  | 63 => ⟨S_, .f32⟩
  | 64 => ⟨S_, .f32⟩
  | 65 => ⟨S1024x10240, .f32⟩
  | 66 => ⟨S1024x10240, .f32⟩
  | 67 => ⟨S_, .f32⟩
  | 68 => ⟨S1024x10240, .f32⟩
  | 69 => ⟨S1024x10240, .f32⟩
  | 70 => ⟨S1024x10240, .f32⟩
  | 71 => ⟨S1024x10240, .f32⟩
  | 72 => ⟨S1024x10240, .f32⟩
  | 73 => ⟨S1024x10240, .f32⟩
  | 74 => ⟨S1x10240, .f32⟩
  | 75 => ⟨S1024x10240, .f32⟩
  | 76 => ⟨S1024x10240, .f32⟩
  | 77 => ⟨S1024x10240, .i32⟩
  | 78 => ⟨S_, .f32⟩
  | 79 => ⟨S_, .i32⟩
  | 80 => ⟨S1024, .f32⟩
  | 81 => ⟨S1024, .i32⟩
  | 82 => ⟨S_, .i32⟩
  | 83 => ⟨S_, .i32⟩
  | 84 => ⟨S1024, .i32⟩
  | 85 => ⟨S1024, .i32⟩
  | 86 => ⟨S1024, .i32⟩
  | 87 => ⟨S_, .i32⟩
  | 88 => ⟨S1024, .i32⟩
  | 89 => ⟨S1024, .i1⟩
  | 90 => ⟨S1024, .i32⟩
  | 91 => ⟨S1024, .i32⟩
  | 92 => ⟨S_, .i32⟩
  | 93 => ⟨S1024, .i32⟩
  | 94 => ⟨S1024, .i1⟩
  | 95 => ⟨S1024, .i1⟩
  | 96 => ⟨S_, .i32⟩
  | 97 => ⟨S1024, .i32⟩
  | 98 => ⟨S1024, .i32⟩
  | 99 => ⟨S1024, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S1024, .i32⟩
  | 107 => ⟨S1024, .i32⟩
  | 108 => ⟨S_, .i32⟩
  | 109 => ⟨S1024, .i32⟩
  | 110 => ⟨S1024, .i1⟩
  | 111 => ⟨S_, .i32⟩
  | 112 => ⟨S1024, .i32⟩
  | 113 => ⟨S1024, .i1⟩
  | 114 => ⟨S_, .i32⟩
  | 115 => ⟨S_, .i1⟩
  | 116 => ⟨S1024, .i1⟩
  | 117 => ⟨S1024, .i1⟩
  | 118 => ⟨S1024, .i1⟩
  | 119 => ⟨S1024, .i32⟩
  | 120 => ⟨S1024, .i32⟩
  | 121 => ⟨S1024, .i32⟩
  | 122 => ⟨S1x512, .i32⟩
  | 123 => ⟨S1x1x1x512, .i32⟩
  | 124 => ⟨S1024x1x1x512, .i32⟩
  | 125 => ⟨S1024x512, .i32⟩
  | 126 => ⟨S1024, .i32⟩
  | 127 => ⟨S_, .i32⟩
  | _ => ⟨S512, .i32⟩

abbrev hbmTy0_1 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S1024x1, .i32⟩
  | 14 => ⟨S1024x1, .i32⟩
  | 15 => ⟨S1024x2, .i32⟩
  | 16 => ⟨S1024x512, .i32⟩
  | 17 => ⟨S1024x512x1, .i32⟩
  | 18 => ⟨S1x1x20, .i32⟩
  | 19 => ⟨S1024x512x20, .i32⟩
  | 20 => ⟨S1024x512x20, .i32⟩
  | 21 => ⟨S1024x512x20, .i1⟩
  | 22 => ⟨S1024x512x20, .f32⟩
  | 23 => ⟨S1024x512x64, .f32⟩
  | 24 => ⟨S_, .f32⟩
  | 25 => ⟨S1024x512x64, .f32⟩
  | 26 => ⟨S1024x512x64, .f32⟩
  | 27 => ⟨S_, .f32⟩
  | 28 => ⟨S1024x64, .f32⟩
  | 29 => ⟨S_, .f32⟩
  | 30 => ⟨S1024x64, .f32⟩
  | 31 => ⟨S1024x64, .f32⟩
  | 32 => ⟨S1x64, .f32⟩
  | 33 => ⟨S1024x64, .f32⟩
  | 34 => ⟨S1024x64, .f32⟩
  | 35 => ⟨S_, .f32⟩
  | 36 => ⟨S1024, .f32⟩
  | 37 => ⟨S1x512x20, .f32⟩
  | 38 => ⟨S1x512x64, .f32⟩
  | 39 => ⟨S_, .f32⟩
  | 40 => ⟨S1x512x64, .f32⟩
  | 41 => ⟨S1x512x64, .f32⟩
  | 42 => ⟨S_, .f32⟩
  | 43 => ⟨S1x64, .f32⟩
  | 44 => ⟨S_, .f32⟩
  | 45 => ⟨S1x64, .f32⟩
  | 46 => ⟨S1x64, .f32⟩
  | 47 => ⟨S1x64, .f32⟩
  | 48 => ⟨S1x64, .f32⟩
  | 49 => ⟨S_, .f32⟩
  | 50 => ⟨S1, .f32⟩
  | 51 => ⟨S_, .f32⟩
  | 52 => ⟨S1024, .f32⟩
  | 53 => ⟨S1024, .f32⟩
  | 54 => ⟨S1024x512x64, .f32⟩
  | 55 => ⟨S_, .f32⟩
  | 56 => ⟨S1024x512x64, .f32⟩
  | 57 => ⟨S1024x512x64, .f32⟩
  | 58 => ⟨S_, .f32⟩
  | 59 => ⟨S1024x512x64, .f32⟩
  | 60 => ⟨S1024x512x64, .i1⟩
  | 61 => ⟨S_, .f32⟩
  | 62 => ⟨S1024x512x64, .f32⟩
  | 63 => ⟨S1024x512x64, .i1⟩
  | 64 => ⟨S_, .f32⟩
  | 65 => ⟨S1024x512x64, .f32⟩
  | 66 => ⟨S_, .f32⟩
  | 67 => ⟨S1024x512x64, .f32⟩
  | 68 => ⟨S_, .f32⟩
  | 69 => ⟨S1024x512x64, .f32⟩
  | 70 => ⟨S1024x512x64, .f32⟩
  | 71 => ⟨S1024x512x64, .f32⟩
  | 72 => ⟨S_, .f32⟩
  | 73 => ⟨S1024x64, .f32⟩
  | 74 => ⟨S_, .f32⟩
  | 75 => ⟨S1024x64, .f32⟩
  | 76 => ⟨S1024x64, .f32⟩
  | 77 => ⟨S1x64, .f32⟩
  | 78 => ⟨S1024x64, .f32⟩
  | 79 => ⟨S1024x64, .f32⟩
  | 80 => ⟨S_, .f32⟩
  | 81 => ⟨S1024, .f32⟩
  | 82 => ⟨S_, .f32⟩
  | 83 => ⟨S_, .f32⟩
  | 84 => ⟨S_, .f32⟩
  | 85 => ⟨S1024, .f32⟩
  | 86 => ⟨S1024x64, .f32⟩
  | 87 => ⟨S1024x64, .f32⟩
  | 88 => ⟨S1024x64, .f32⟩
  | 89 => ⟨S_, .f32⟩
  | 90 => ⟨S1024x64, .f32⟩
  | 91 => ⟨S1024x64, .f32⟩
  | 92 => ⟨S1024x512x64, .f32⟩
  | 93 => ⟨S1024x512x64, .f32⟩
  | 94 => ⟨S1024x512x20, .f32⟩
  | 95 => ⟨S1024x512x20, .f32⟩
  | 96 => ⟨S_, .f32⟩
  | 97 => ⟨S1024x512, .f32⟩
  | 98 => ⟨S1024x512x1, .f32⟩
  | 99 => ⟨S1024x512x20, .f32⟩
  | 100 => ⟨S1024x512x20, .f32⟩
  | 101 => ⟨S10240, .f32⟩
  | 102 => ⟨S_, .f32⟩
  | 103 => ⟨S10240, .f32⟩
  | 104 => ⟨S10240, .f32⟩
  | 105 => ⟨S_, .f32⟩
  | 106 => ⟨S_, .f32⟩
  | 107 => ⟨S_, .f32⟩
  | 108 => ⟨S_, .f32⟩
  | 109 => ⟨S1, .f32⟩
  | 110 => ⟨S10240, .f32⟩
  | 111 => ⟨S10240, .f32⟩
  | 112 => ⟨S10240, .f32⟩
  | 113 => ⟨S_, .f32⟩
  | 114 => ⟨S_, .f32⟩
  | 115 => ⟨S1, .f32⟩
  | 116 => ⟨S10240, .f32⟩
  | 117 => ⟨S10240, .f32⟩
  | 118 => ⟨S512x20, .f32⟩
  | 119 => ⟨S1024x10240, .f32⟩
  | 120 => ⟨S_, .f32⟩
  | 121 => ⟨S1024x10240, .f32⟩
  | 122 => ⟨S1024x10240, .f32⟩
  | 123 => ⟨S_, .f32⟩
  | 124 => ⟨S1024, .f32⟩
  | 125 => ⟨S_, .f32⟩
  | 126 => ⟨S1024, .f32⟩
  | 127 => ⟨S1024, .f32⟩
  | _ => ⟨S512, .i32⟩

abbrev hbmTy0_2 (i : Nat) : BufTy := match i % 128 with
  | 0 => ⟨S1024x1, .f32⟩
  | 1 => ⟨S1024x10240, .f32⟩
  | 2 => ⟨S1024x10240, .f32⟩
  | 3 => ⟨S1024x10240, .f32⟩
  | 4 => ⟨S_, .f32⟩
  | 5 => ⟨S1024, .f32⟩
  | 6 => ⟨S1024x1, .f32⟩
  | 7 => ⟨S1024x10240, .f32⟩
  | 8 => ⟨S1024x10240, .f32⟩
  | 9 => ⟨S1024x512x20, .f32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S1024x1, .i32⟩
  | 26 => ⟨S1024x2, .i32⟩
  | 27 => ⟨S1024, .f32⟩
  | 28 => ⟨S1024, .i32⟩
  | 29 => ⟨S_, .i32⟩
  | 30 => ⟨S1024, .i32⟩
  | 31 => ⟨S1024, .i1⟩
  | 32 => ⟨S_, .i32⟩
  | 33 => ⟨S1024, .i32⟩
  | 34 => ⟨S1024, .i32⟩
  | 35 => ⟨S1024, .i32⟩
  | 36 => ⟨S_, .i32⟩
  | 37 => ⟨S1024, .i32⟩
  | 38 => ⟨S1024, .i1⟩
  | 39 => ⟨S_, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i1⟩
  | 46 => ⟨S_, .i32⟩
  | 47 => ⟨S1024, .i32⟩
  | 48 => ⟨S1024, .i32⟩
  | 49 => ⟨S1024, .i32⟩
  | 50 => ⟨S1024x1, .i32⟩
  | 51 => ⟨S1024x1, .i32⟩
  | 52 => ⟨S1024x1, .i32⟩
  | 53 => ⟨S1024x3, .i32⟩
  | 54 => ⟨S1024, .f32⟩
  | 55 => ⟨S1024, .f32⟩
  | 56 => ⟨S1024, .f32⟩
  | 57 => ⟨S1024, .f32⟩
  | 58 => ⟨S1024, .i1⟩
  | _ => ⟨S512, .i32⟩

abbrev hbmTy (i : Nat) : BufTy := match i / 128 with
  | 0 => hbmTy0_0 i
  | 1 => hbmTy0_1 i
  | 2 => hbmTy0_2 i
  | _ => ⟨S512, .i32⟩

abbrev bufTy : (tb : Table) → Fin (tcTables nBuf tb) → BufTy
  | .hbm, ⟨i, _⟩ => hbmTy i
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_cst_8 : Ref sig .tc := ⟨.hbm, 39, rfl⟩
abbrev main_v20 : Ref sig .tc := ⟨.hbm, 40, rfl⟩
abbrev main_cst_9 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_10 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_cst_14 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call2_v0 : Ref sig .tc := ⟨.hbm, 77, rfl⟩
abbrev main_call2_cst : Ref sig .tc := ⟨.hbm, 78, rfl⟩
abbrev main_call2_c : Ref sig .tc := ⟨.hbm, 79, rfl⟩
abbrev main_call2_v1_0 : Ref sig .tc := ⟨.hbm, 80, rfl⟩
abbrev main_v46 : Ref sig .tc := ⟨.hbm, 81, rfl⟩
abbrev main_c : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v47 : Ref sig .tc := ⟨.hbm, 99, rfl⟩
abbrev main_c_15 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_1 : Ref sig .tc := ⟨.hbm, 108, rfl⟩
abbrev main_call4_v5 : Ref sig .tc := ⟨.hbm, 109, rfl⟩
abbrev main_call4_v6 : Ref sig .tc := ⟨.hbm, 110, rfl⟩
abbrev main_call4_c_2 : Ref sig .tc := ⟨.hbm, 111, rfl⟩
abbrev main_call4_v7 : Ref sig .tc := ⟨.hbm, 112, rfl⟩
abbrev main_call4_v8 : Ref sig .tc := ⟨.hbm, 113, rfl⟩
abbrev main_call4_c_3 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_c_16 : Ref sig .tc := ⟨.hbm, 127, rfl⟩
abbrev main_v54 : Ref sig .tc := ⟨.hbm, 128, rfl⟩
abbrev main_v55 : Ref sig .tc := ⟨.hbm, 129, rfl⟩
abbrev main_c_17 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_c_18 : Ref sig .tc := ⟨.hbm, 134, rfl⟩
abbrev main_v59 : Ref sig .tc := ⟨.hbm, 135, rfl⟩
abbrev main_v60 : Ref sig .tc := ⟨.hbm, 136, rfl⟩
abbrev main_c_19 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_v68 : Ref sig .tc := ⟨.hbm, 150, rfl⟩
abbrev main_v69 : Ref sig .tc := ⟨.hbm, 151, rfl⟩
abbrev main_cst_20 : Ref sig .tc := ⟨.hbm, 152, rfl⟩
abbrev main_v70 : Ref sig .tc := ⟨.hbm, 153, rfl⟩
abbrev main_v71 : Ref sig .tc := ⟨.hbm, 154, rfl⟩
abbrev main_cst_21 : Ref sig .tc := ⟨.hbm, 155, rfl⟩
abbrev main_v72 : Ref sig .tc := ⟨.hbm, 156, rfl⟩
abbrev main_cst_22 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_23 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_cst_24 : Ref sig .tc := ⟨.hbm, 167, rfl⟩
abbrev main_v81 : Ref sig .tc := ⟨.hbm, 168, rfl⟩
abbrev main_v82 : Ref sig .tc := ⟨.hbm, 169, rfl⟩
abbrev main_cst_25 : Ref sig .tc := ⟨.hbm, 170, rfl⟩
abbrev main_v83 : Ref sig .tc := ⟨.hbm, 171, rfl⟩
abbrev main_cst_26 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_27 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_cst_28 : Ref sig .tc := ⟨.hbm, 183, rfl⟩
abbrev main_v93 : Ref sig .tc := ⟨.hbm, 184, rfl⟩
abbrev main_v94 : Ref sig .tc := ⟨.hbm, 185, rfl⟩
abbrev main_cst_29 : Ref sig .tc := ⟨.hbm, 186, rfl⟩
abbrev main_v95 : Ref sig .tc := ⟨.hbm, 187, rfl⟩
abbrev main_v96 : Ref sig .tc := ⟨.hbm, 188, rfl⟩
abbrev main_cst_30 : Ref sig .tc := ⟨.hbm, 189, rfl⟩
abbrev main_v97 : Ref sig .tc := ⟨.hbm, 190, rfl⟩
abbrev main_v98 : Ref sig .tc := ⟨.hbm, 191, rfl⟩
abbrev main_cst_31 : Ref sig .tc := ⟨.hbm, 192, rfl⟩
abbrev main_v99 : Ref sig .tc := ⟨.hbm, 193, rfl⟩
abbrev main_cst_32 : Ref sig .tc := ⟨.hbm, 194, rfl⟩
abbrev main_v100 : Ref sig .tc := ⟨.hbm, 195, rfl⟩
abbrev main_cst_33 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_cst_34 : Ref sig .tc := ⟨.hbm, 200, rfl⟩
abbrev main_v104 : Ref sig .tc := ⟨.hbm, 201, rfl⟩
abbrev main_cst_35 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_cst_36 : Ref sig .tc := ⟨.hbm, 208, rfl⟩
abbrev main_v110 : Ref sig .tc := ⟨.hbm, 209, rfl⟩
abbrev main_cst_37 : Ref sig .tc := ⟨.hbm, 210, rfl⟩
abbrev main_v111 : Ref sig .tc := ⟨.hbm, 211, rfl⟩
abbrev main_cst_38 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_cst_39 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_cst_40 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_cst_41 : Ref sig .tc := ⟨.hbm, 230, rfl⟩
abbrev main_v127 : Ref sig .tc := ⟨.hbm, 231, rfl⟩
abbrev main_v128 : Ref sig .tc := ⟨.hbm, 232, rfl⟩
abbrev main_cst_42 : Ref sig .tc := ⟨.hbm, 233, rfl⟩
abbrev main_v129 : Ref sig .tc := ⟨.hbm, 234, rfl⟩
abbrev main_cst_43 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_cst_44 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_cst_45 : Ref sig .tc := ⟨.hbm, 248, rfl⟩
abbrev main_v141 : Ref sig .tc := ⟨.hbm, 249, rfl⟩
abbrev main_v142 : Ref sig .tc := ⟨.hbm, 250, rfl⟩
abbrev main_cst_46 : Ref sig .tc := ⟨.hbm, 251, rfl⟩
abbrev main_v143 : Ref sig .tc := ⟨.hbm, 252, rfl⟩
abbrev main_cst_47 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_cst_48 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_c_49 : Ref sig .tc := ⟨.hbm, 266, rfl⟩
abbrev main_v155 : Ref sig .tc := ⟨.hbm, 267, rfl⟩
abbrev main_v156 : Ref sig .tc := ⟨.hbm, 268, rfl⟩
abbrev main_c_50 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_c_51 : Ref sig .tc := ⟨.hbm, 273, rfl⟩
abbrev main_v160 : Ref sig .tc := ⟨.hbm, 274, rfl⟩
abbrev main_v161 : Ref sig .tc := ⟨.hbm, 275, rfl⟩
abbrev main_c_52 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_c_53 : Ref sig .tc := ⟨.hbm, 285, rfl⟩
abbrev main_v170 : Ref sig .tc := ⟨.hbm, 286, rfl⟩
abbrev main_v171 : Ref sig .tc := ⟨.hbm, 287, rfl⟩
abbrev main_c_54 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_c_55 : Ref sig .tc := ⟨.hbm, 292, rfl⟩
abbrev main_v175 : Ref sig .tc := ⟨.hbm, 293, rfl⟩
abbrev main_v176 : Ref sig .tc := ⟨.hbm, 294, rfl⟩
abbrev main_c_56 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_c_57 : Ref sig .tc := ⟨.hbm, 299, rfl⟩
abbrev main_v180 : Ref sig .tc := ⟨.hbm, 300, rfl⟩
abbrev main_v181 : Ref sig .tc := ⟨.hbm, 301, rfl⟩
abbrev main_c_58 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩

abbrev nD : Nat := 1
abbrev τ : Topo := Topo.v7x

variable {F : FTy → Type} [FloatOps F]
-- ==== Proof.KernelRun.lean ====
/- The kernel's run: every fair execution of its `main` ends with each buffer at the contents that the generated fold
   through `main` gives it, so a result reads `W5` there; and what the two pipelined calls leave in their output arrays. -/
module

public import proofs.«01_k».proof.Proof.Gen.KernelIdeal.Frame
public import Idealize.ShloMosaic.PureOps.Ideal
public import Idealize.ShloMosaic.Lib.Pipeline.ValueKit
public import Idealize.ShloMosaic.Lib.StableHlo.RunRead
public import Idealize.ShloMosaic.Lib.ValueIdx

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- The kernel's run: each unscoped buffer ends at the fold's contents. -/
theorem run : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  (θ_run defs _ _).mono (fun _ h => h.1) <|
  Pipeline.θ_run_regions_kit_sems (Q := fun r => (∀ c : Dev nD,
      ∀ b ∈ Pipeline.ucRefs τ sig, r.2.mem (((c : Thread nD τ)).1, b) = W5 m ρ c b) ∧ True) (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, trivial⟩)

variable (V : (c : Dev nD) → (b : Ref sig .tc) → Buf (Elt Ideal) ((c : Thread nD τ).loc b)) (c : Dev nD)

/-- The first call's blocks are whole arrays: every block index is zero. -/
theorem index0 : ∀ (w : Fin cfg0.W) (t : Fin cfg0.N) a, (cfg0.win w).index t a = 0 := by decide +kernel

/-- The first call reads its three inputs whole. -/
theorem in0 (t : Fin cfg0.N) : iblk0 V c 0 t = V c main_call0_v0 ∧ iblk0 V c 1 t = V c main_arg3 ∧ iblk0 V c 2 t = V c main_call0_v1 := by
  refine ⟨funext fun y => ?_, funext fun y => ?_, funext fun y => ?_⟩
  · blk_ext [iblk0, index0 0 t]
  · blk_ext [iblk0, index0 1 t]
  · blk_ext [iblk0, index0 2 t]

/-- The first call leaves its gather table, of the arrays it reads. -/
theorem arr0_3 : (dat0 V c).arrAt 3 cfg0.N = out0_3 (V c main_call0_v0) (V c main_arg3) (V c main_call0_v1) := by
  refine (dat0 V c).arrAt_eq_of_covers 3 _ (by decide +kernel) fun t hf y => ?_
  obtain ⟨h0, h1, h2⟩ := in0 V c t
  blk_simp
  rw [after0_3, h0, h1, h2]
  blk_ext [index0 3 t]

/-- The first call leaves the hidden rows. -/
theorem arr0_4 : (dat0 V c).arrAt 4 cfg0.N = out0_4 (V c main_call0_v0) (V c main_arg3) (V c main_call0_v1) := by
  refine (dat0 V c).arrAt_eq_of_covers 4 _ (by decide +kernel) fun t hf y => ?_
  obtain ⟨h0, h1, h2⟩ := in0 V c t
  blk_simp
  rw [after0_4, h0, h1, h2]
  blk_ext [index0 4 t]

/-- The first call leaves the row of small quantities. -/
theorem arr0_5 : (dat0 V c).arrAt 5 cfg0.N = out0_5 (V c main_call0_v0) (V c main_arg3) (V c main_call0_v1) := by
  refine (dat0 V c).arrAt_eq_of_covers 5 _ (by decide +kernel) fun t hf y => ?_
  obtain ⟨h0, h1, h2⟩ := in0 V c t
  blk_simp
  rw [after0_5, h0, h1, h2]
  blk_ext [index0 5 t]

/-- The chain that row `i` of block `t` is. -/
def chain (t : Fin cfg1.N) (i : Fin 256) : Fin 1024 :=
  ⟨t.val * 256 + i.val, by have := t.isLt; have h : cfg1.N = 4 := N_1; omega⟩

/-- Block `t` of an array with a row per chain. -/
def rows {n : ℕ} {α : Type} (t : Fin cfg1.N) (A : (⟨2, ![1024, n]⟩ : Shape).Idx → α) : (⟨2, ![256, n]⟩ : Shape).Idx → α :=
  fun z => A (ix2 (chain t (z 0)) (z 1))

/-- The second call's tables are whole arrays at every point. -/
theorem index1 : ∀ (w : Fin cfg1.W) (t : Fin cfg1.N) a, 1 ≤ w.val → w.val ≤ 6 → (cfg1.win w).index t a = 0 := by decide +kernel

/-- The second call's draws and outputs go by blocks of rows. -/
theorem index1_row : ∀ t : Fin cfg1.N, (win1_0.index t = ![t.val, 0] ∧ win1_7.index t = ![t.val, 0]) ∧ win1_8.index t = ![t.val, 0]
    ∧ win1_9.index t = ![t.val, 0] ∧ win1_10.index t = ![t.val, 0] ∧ win1_11.index t = ![t.val, 0] := by decide +kernel

/-- What the second call's body reads at point `t`. -/
theorem in1 (t : Fin cfg1.N) : iblk1 V c 0 t = rows t (V c main_arg1) ∧ iblk1 V c 1 t = V c main_call0_v4 ∧ iblk1 V c 2 t = V c main_call0_v2_0
    ∧ iblk1 V c 3 t = V c main_call0_v2_1 ∧ iblk1 V c 4 t = V c main_call0_v2_2 ∧ iblk1 V c 5 t = V c main_call0_v5
    ∧ iblk1 V c 6 t = V c main_call0_v6 ∧ iblk1 V c 7 t = rows t (V c main_call0_v7) := by
  obtain ⟨⟨e0, e7⟩, -⟩ := index1_row t
  refine ⟨funext fun y => ?_, funext fun y => ?_, funext fun y => ?_, funext fun y => ?_, funext fun y => ?_, funext fun y => ?_, funext fun y => ?_, funext fun y => ?_⟩
  · unfold rows chain; blk_ext [iblk1, e0]
  · blk_ext [iblk1, index1 1 t _ (by decide) (by decide)]
  · blk_ext [iblk1, index1 2 t _ (by decide) (by decide)]
  · blk_ext [iblk1, index1 3 t _ (by decide) (by decide)]
  · blk_ext [iblk1, index1 4 t _ (by decide) (by decide)]
  · blk_ext [iblk1, index1 5 t _ (by decide) (by decide)]
  · blk_ext [iblk1, index1 6 t _ (by decide) (by decide)]
  · unfold rows chain; blk_ext [iblk1, e7]

/-- The second call leaves the mutants: an array whose blocks the body's first output is. -/
theorem arr1_8 (G : Vec Ideal S1024x512 .i32)
    (h : ∀ t, out1_8 (rows t (V c main_arg1)) (V c main_call0_v4) (V c main_call0_v2_0) (V c main_call0_v2_1) (V c main_call0_v2_2) (V c main_call0_v5) (V c main_call0_v6) (rows t (V c main_call0_v7)) = rows t G) :
    (dat1 V c).arrAt 8 cfg1.N = G := by
  refine (dat1 V c).arrAt_eq_of_covers 8 _ (by decide +kernel) fun t hf y => ?_
  obtain ⟨h0, h1, h2, h3, h4, h5, h6, h7⟩ := in1 V c t
  obtain ⟨-, e8, e9, e10, e11⟩ := index1_row t
  blk_simp
  rw [after1_8, h0, h1, h2, h3, h4, h5, h6, h7, h t]
  unfold rows chain
  blk_ext [e8]

/-- The second call leaves the acceptance ratios. -/
theorem arr1_9 (G : Vec Ideal S1024x1 .f32)
    (h : ∀ t, out1_9 (rows t (V c main_arg1)) (V c main_call0_v4) (V c main_call0_v2_0) (V c main_call0_v2_1) (V c main_call0_v2_2) (V c main_call0_v5) (V c main_call0_v6) (rows t (V c main_call0_v7)) = rows t G) :
    (dat1 V c).arrAt 9 cfg1.N = G := by
  refine (dat1 V c).arrAt_eq_of_covers 9 _ (by decide +kernel) fun t hf y => ?_
  obtain ⟨h0, h1, h2, h3, h4, h5, h6, h7⟩ := in1 V c t
  obtain ⟨-, e8, e9, e10, e11⟩ := index1_row t
  blk_simp
  rw [after1_9, h0, h1, h2, h3, h4, h5, h6, h7, h t]
  unfold rows chain
  blk_ext [e9]

/-- The second call leaves the mutants' scores. -/
theorem arr1_10 (G : Vec Ideal S1024x1 .f32)
    (h : ∀ t, out1_10 (rows t (V c main_arg1)) (V c main_call0_v4) (V c main_call0_v2_0) (V c main_call0_v2_1) (V c main_call0_v2_2) (V c main_call0_v5) (V c main_call0_v6) (rows t (V c main_call0_v7)) = rows t G) :
    (dat1 V c).arrAt 10 cfg1.N = G := by
  refine (dat1 V c).arrAt_eq_of_covers 10 _ (by decide +kernel) fun t hf y => ?_
  obtain ⟨h0, h1, h2, h3, h4, h5, h6, h7⟩ := in1 V c t
  obtain ⟨-, e8, e9, e10, e11⟩ := index1_row t
  blk_simp
  rw [after1_10, h0, h1, h2, h3, h4, h5, h6, h7, h t]
  unfold rows chain
  blk_ext [e10]

/-- The second call leaves the step flags, as floats. -/
theorem arr1_11 (G : Vec Ideal S1024x1 .f32)
    (h : ∀ t, out1_11 (rows t (V c main_arg1)) (V c main_call0_v4) (V c main_call0_v2_0) (V c main_call0_v2_1) (V c main_call0_v2_2) (V c main_call0_v5) (V c main_call0_v6) (rows t (V c main_call0_v7)) = rows t G) :
    (dat1 V c).arrAt 11 cfg1.N = G := by
  refine (dat1 V c).arrAt_eq_of_covers 11 _ (by decide +kernel) fun t hf y => ?_
  obtain ⟨h0, h1, h2, h3, h4, h5, h6, h7⟩ := in1 V c t
  obtain ⟨-, e8, e9, e10, e11⟩ := index1_row t
  blk_simp
  rw [after1_11, h0, h1, h2, h3, h4, h5, h6, h7, h t]
  unfold rows chain
  blk_ext [e11]

end Cert.KernelIdeal.Value

end
-- ==== Proof.Spec.lean ====
/- The problem's mathematics over the reals: the gradient table, the proposal logits, the partition function, the score
   of a sequence, and the acceptance probability of a one-token change. No program is mentioned here. -/
module

public import Mathlib.Analysis.SpecialFunctions.Exp
public import Mathlib.Algebra.BigOperators.Fin

@[expose] public section

noncomputable section

namespace Cert.Spec

/-- The temperature: the 32-bit value nearest to one tenth. -/
def T : ℝ := 13421773 / 134217728

theorem T_pos : 0 < T := by unfold T; norm_num

variable (w : Fin 20 → Fin 64 → ℝ) (b : Fin 64 → ℝ)

/-- The derivative of the score in hidden unit `h` where a position holds the token `t`. -/
def slope (t : Fin 20) (h : Fin 64) : ℝ := if 0 < w t h then b h * (1 / 512) else 0

/-- The directional derivative towards the token `a` where a position holds the token `t`. -/
def dt (a t : Fin 20) : ℝ := ∑ h, w a h * slope w b t h

/-- The proposal logit of changing a token `t` to `a`. -/
def lg (a t : Fin 20) : ℝ := (dt w b a t - dt w b t t) / T

/-- The sum of the exponentials of the logits of a position that holds `t`. -/
def ex (t : Fin 20) : ℝ := ∑ a, Real.exp (lg w b a t)

/-- The partition function of a sequence. -/
def Z (y : Fin 512 → Fin 20) : ℝ := ∑ l, ex w b (y l)

/-- A hidden unit of a token after the rectifier. -/
def relu (a : Fin 20) (h : Fin 64) : ℝ := max (w a h) 0

/-- A hidden unit averaged over the sequence. -/
def pool (y : Fin 512 → Fin 20) (h : Fin 64) : ℝ := (∑ l, relu w (y l) h) * (1 / 512)

/-- The score of a sequence. -/
def score (y : Fin 512 → Fin 20) : ℝ := ∑ h, pool w y h * b h

/-- The acceptance ratio of changing position `p` of `x` to the token `a`. -/
def ratio (x : Fin 512 → Fin 20) (p : Fin 512) (a : Fin 20) : ℝ :=
  Real.exp (score w b (Function.update x p a) - score w b x) * (1 / Z w b (Function.update x p a)
    / (Real.exp (lg w b a (x p)) / Z w b x))

/-- The columns of the kernel's table at a position that holds `t`: the twenty logits, their partition sum, zeros. -/
def tableAt (t : Fin 20) (k : Fin 32) : ℝ := if h : k.val < 20 then lg w b ⟨k.val, h⟩ t else if k.val = 20 then ex w b t else 0

/-- The kernel's row of small values: the partition sums by token, the partition function, the score, zeros, the averages. -/
def smallAt (x : Fin 512 → Fin 20) (k : Fin 128) : ℝ :=
  if h : k.val < 20 then ex w b ⟨k.val, h⟩ else if k.val = 20 then Z w b x else if k.val = 21 then score w b x
  else if k.val < 64 then 0 else pool w x ⟨k.val - 64, by have := k.isLt; omega⟩

theorem lg_self (t : Fin 20) : lg w b t t = 0 := by simp [lg]

theorem ex_pos (t : Fin 20) : 0 < ex w b t :=
  Finset.sum_pos (fun _ _ => Real.exp_pos _) Finset.univ_nonempty

theorem Z_pos (y : Fin 512 → Fin 20) : 0 < Z w b y :=
  Finset.sum_pos (fun _ _ => ex_pos w b _) Finset.univ_nonempty

/-- A sum over the positions after one of them is changed. -/
theorem sum_update (f : Fin 20 → ℝ) (x : Fin 512 → Fin 20) (p : Fin 512) (a : Fin 20) :
    ∑ l, f (Function.update x p a l) = (∑ l, f (x l)) + (f a - f (x p)) := by
  have h1 := Finset.add_sum_erase Finset.univ (fun l => f (Function.update x p a l)) (Finset.mem_univ p)
  have h2 := Finset.add_sum_erase Finset.univ (fun l => f (x l)) (Finset.mem_univ p)
  have h3 : ∑ l ∈ Finset.univ.erase p, f (Function.update x p a l) = ∑ l ∈ Finset.univ.erase p, f (x l) :=
    Finset.sum_congr rfl fun l hl => by rw [Function.update_of_ne (Finset.ne_of_mem_erase hl)]
  simp only [Function.update_self] at h1
  linarith

/-- The partition function after one change: one term out, one term in. -/
theorem Z_update (x : Fin 512 → Fin 20) (p : Fin 512) (a : Fin 20) :
    Z w b (Function.update x p a) = Z w b x - ex w b (x p) + ex w b a := by
  unfold Z; rw [sum_update (ex w b)]; ring

/-- The averaged hidden units after one change. -/
theorem pool_update (x : Fin 512 → Fin 20) (p : Fin 512) (a : Fin 20) (h : Fin 64) :
    pool w (Function.update x p a) h = pool w x h + (relu w a h - relu w (x p) h) * (1 / 512) := by
  unfold pool; rw [sum_update fun t => relu w t h]; ring

/-- The score after one change, from the source's averages. -/
theorem score_update (x : Fin 512 → Fin 20) (p : Fin 512) (a : Fin 20) :
    score w b (Function.update x p a)
      = ∑ h, (pool w x h + (relu w a h - relu w (x p) h) * (1 / 512)) * b h := by
  unfold score; simp only [pool_update]

/-- The acceptance ratio as one quotient of products. -/
theorem ratio_eq (x : Fin 512 → Fin 20) (p : Fin 512) (a : Fin 20) :
    ratio w b x p a = Real.exp (score w b (Function.update x p a) - score w b x) * Z w b x
      * (1 / ((Z w b x - ex w b (x p) + ex w b a) * Real.exp (lg w b a (x p)))) := by
  unfold ratio
  rw [← Z_update]
  have h1 := (Z_pos w b x).ne'
  have h2 := (Z_pos w b (Function.update x p a)).ne'
  have h3 := (Real.exp_pos (lg w b a (x p))).ne'
  field_simp

theorem den_pos (x : Fin 512 → Fin 20) (p : Fin 512) (a : Fin 20) :
    0 < (Z w b x - ex w b (x p) + ex w b a) * Real.exp (lg w b a (x p)) := by
  rw [← Z_update]; exact mul_pos (Z_pos w b _) (Real.exp_pos _)

end Cert.Spec

end
-- ==== Proof.Coe.lean ====
/- Extended-real arithmetic at real values, the three literals both programs use, and comparisons of small index words. -/
module

public import proofs.«01_k».proof.Proof.Spec
public import Idealize.ShloMosaic.PureOps.Ideal
public import Idealize.ShloMosaic.Lib.Pointwise
public import Idealize.ShloMosaic.Lib.WordCmp

@[expose] public section

noncomputable section

namespace Cert.Coe

open Idealize.ShloMosaic

/-- A sum of real values is the value of the sum. -/
theorem sum {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- A quotient of reals by a nonzero real. -/
theorem div {y : ℝ} (h : y ≠ 0) (a : ℝ) : Ideal.div (a : EReal) (y : EReal) = ((a / y : ℝ) : EReal) := by
  rw [Ideal.div_coe h, ← EReal.coe_mul, mul_one_div]

theorem mul (a c : ℝ) : (a : EReal) * (c : EReal) = ((a * c : ℝ) : EReal) := (EReal.coe_mul a c).symm
theorem add (a c : ℝ) : (a : EReal) + (c : EReal) = ((a + c : ℝ) : EReal) := (EReal.coe_add a c).symm
theorem sub (a c : ℝ) : (a : EReal) - (c : EReal) = ((a - c : ℝ) : EReal) := (EReal.coe_sub a c).symm

theorem sup (a c : ℝ) : max (a : EReal) (c : EReal) = ((max a c : ℝ) : EReal) := (EReal.coe_strictMono.monotone.map_max).symm

theorem sup_zero (a : ℝ) : max (a : EReal) 0 = ((max a 0 : ℝ) : EReal) := sup a 0

theorem pos (a : ℝ) : (0 : EReal) < (a : EReal) ↔ 0 < a := EReal.coe_pos

theorem exp (a : ℝ) : Ideal.exp (a : EReal) = ((Real.exp a : ℝ) : EReal) := rfl

theorem ite (p : Prop) [Decidable p] (a c : ℝ) :
    (if p then (a : EReal) else (c : EReal)) = ((if p then a else c : ℝ) : EReal) := by split <;> rfl

theorem ite_zero (p : Prop) [Decidable p] (a : ℝ) :
    (if p then (a : EReal) else 0) = ((if p then a else 0 : ℝ) : EReal) := by split <;> rfl

/-- The temperature's literal. -/
theorem ofBits_T : Ideal.ofBits .f32 1036831949#32 = ((Spec.T : ℝ) : EReal) := by
  unfold Spec.T
  simp [Ideal.ofBits, Ideal.ieee, -EReal.coe_mul]; norm_num

/-- The literal of the reciprocal of the sequence's length. -/
theorem ofBits_inv : Ideal.ofBits .f32 989855744#32 = ((1 / 512 : ℝ) : EReal) := by
  simp [Ideal.ofBits, Ideal.ieee, -EReal.coe_mul]; norm_num

/-- The literal of the sequence's length. -/
theorem ofBits_len : Ideal.ofBits .f32 1140850688#32 = ((512 : ℝ) : EReal) := by
  simp [Ideal.ofBits, Ideal.ieee, -EReal.coe_mul]; norm_num

/-- A selection by the equality of two index words. -/
theorem select_eq {α : Type} {n : Nat} (hn : n ≤ 2 ^ 32) (i j : Fin n) (u v : α) :
    Scalar.select (IntOp.cmpi .eq (BitVec.ofNat 32 i.val) (BitVec.ofNat 32 j.val)) u v = if i = j then u else v := by
  by_cases h : i = j
  · subst h; simp [IntOp.cmpi, Scalar.select]
  · rw [if_neg h, Scalar.select, if_neg]
    exact fun e => h (Fin.ext ((WordCmp.cmpi_eq_ofNat_eq_one_iff (lt_of_lt_of_le i.isLt hn) (lt_of_lt_of_le j.isLt hn)).1 e))

/-- The number a one-hot row holds: the equality of two index words, widened and converted. -/
theorem hot {n : Nat} (hn : n ≤ 2 ^ 32) (i j : Fin n) :
    (FloatOps.sitofp .f32 (BitVec.setWidth 32 (IntOp.cmpi .eq (BitVec.ofNat 32 i.val) (BitVec.ofNat 32 j.val))) : Ideal .f32)
      = ((if i = j then 1 else 0 : ℝ) : EReal) := by
  show (((BitVec.setWidth 32 _).toInt : ℝ) : EReal) = _
  by_cases h : i = j
  · subst h; simp [IntOp.cmpi]
  · have h0 : IntOp.cmpi .eq (BitVec.ofNat 32 i.val) (BitVec.ofNat 32 j.val) = 0#1 := by
      rw [WordCmp.cmpi_eq_ofNat_eq_zero_iff (lt_of_lt_of_le i.isLt hn) (lt_of_lt_of_le j.isLt hn)]
      exact fun e => h (Fin.ext e)
    rw [h0, if_neg h]; simp

end Cert.Coe

end
-- ==== Proof.Tables.lean ====
/- What the first call writes: its three output arrays at an index, over real weights and tokens in range. -/
module

public import proofs.«01_k».proof.Proof.Coe
public import proofs.«01_k».proof.Proof.Gen.KernelIdeal.Frame
public import Idealize.ShloMosaic.PureOps.Ideal
public import Idealize.ShloMosaic.Lib.Pipeline.ValueKit
public import Idealize.ShloMosaic.Lib.Pointwise

@[expose] public section

set_option maxRecDepth 16384

noncomputable section

namespace Cert.KernelIdeal.Tables

open Idealize.ShloMosaic
open Cert.KernelIdeal Cert.KernelIdeal.Gen Cert.Spec

variable {w : Fin 20 → Fin 64 → ℝ} {b : Fin 64 → ℝ} {x : Fin 512 → Fin 20}
  {X : Vec Ideal S512x1 .i32} {W : Vec Ideal S20x64 .f32} {B : Vec Ideal S1x64 .f32}

/-- The table of directional derivatives: column `t` is the row sums of the weights times row `t` of the slopes. -/
theorem table_apply (a t : Fin 20) : k0_pay25 (k0_pay5 W) (k0_pay7 W B) (k0_pay8 W B) (k0_pay9 W B) (k0_pay10 W B)
      (k0_pay11 W B) (k0_pay12 W B) (k0_pay14 (k0_pay13 W B)) (k0_pay15 (k0_pay5 W) (k0_pay7 W B))
      (k0_pay16 (k0_pay5 W) (k0_pay7 W B)) (k0_pay17 (k0_pay5 W) (k0_pay7 W B)) (k0_pay18 (k0_pay5 W) (k0_pay7 W B))
      (k0_pay19 (k0_pay5 W) (k0_pay7 W B)) (k0_pay20 (k0_pay5 W) (k0_pay7 W B)) (k0_pay21 (k0_pay5 W) (k0_pay7 W B))
      (k0_pay22 (k0_pay5 W) (k0_pay7 W B)) (k0_pay23 (k0_pay5 W) (k0_pay7 W B)) (k0_pay24 (k0_pay5 W) (k0_pay7 W B))
      (ix2 a t) = ∑ h, k0_pay5 W (ix2 a h) * k0_pay7 W B (ix2 t h) := by
  unfold k0_pay25
  fin_cases t
  all_goals pointwise [k0_pay8, k0_pay9, k0_pay10, k0_pay11, k0_pay12, k0_pay13, k0_pay14, k0_pay15, k0_pay16, k0_pay17, k0_pay18,
    k0_pay19, k0_pay20, k0_pay21, k0_pay22, k0_pay23, k0_pay24]

/-- The one-hot rows of the tokens. -/
theorem hot_apply (hX : ∀ l, X (ix2 l 0) = BitVec.ofNat 32 (x l).val) (l : Fin 512) (a : Fin 20) :
    k0_pay27 X (ix2 l a) = ((if a = x l then 1 else 0 : ℝ) : EReal) := by
  pointwise [k0_pay27]
  rw [hX]
  exact Coe.hot (by norm_num) a (x l)

/-- The slopes over real weights. -/
theorem slope_apply (hW : ∀ a h, W (ix2 a h) = (w a h : EReal)) (hB : ∀ h, B (ix2 0 h) = (b h : EReal)) (t : Fin 20) (h : Fin 64) :
    k0_pay7 W B (ix2 t h) = (slope w b t h : EReal) := by
  pointwise [k0_pay7, k0_pay5, k0_pay4]
  simp only [hW, hB, Coe.ofBits_inv, Coe.pos, Coe.mul, Coe.ite_zero]
  rfl

section
variable {v4 v16 v21 v26 v31 v36 v41 v46 v51 v56 v61 v66 v71 v76 v81 v86 v91 v95} (hP : ∀ a t, k0_pay25 (F := Ideal) v4 v16 v21 v26 v31 v36 v41 v46 v51 v56 v61 v66 v71 v76 v81 v86 v91 v95 (ix2 a t) = (dt w b a t : EReal))
include hP

/-- The row of partition sums, one per token. -/
theorem ex_apply (t : Fin 20) : k0_pay26 (F := Ideal) v4 v16 v21 v26 v31 v36 v41 v46 v51 v56 v61 v66 v71 v76 v81 v86 v91 v95 (ix2 0 t) = (ex w b t : EReal) := by
  pointwise [k0_pay26]
  simp only [Coe.select_eq (n := 20) (by norm_num), hP, Coe.ofBits_T, Finset.sum_ite_eq', Finset.mem_univ, if_true, Coe.sub,
    Coe.div T_pos.ne', Coe.exp, Coe.sum]
  rfl

/-- The table's column of each position's token. -/
theorem column_apply (hX : ∀ l, X (ix2 l 0) = BitVec.ofNat 32 (x l).val) (l : Fin 512) (a : Fin 20) :
    k0_pay28 (F := Ideal) v4 v16 v21 v26 v31 v36 v41 v46 v51 v56 v61 v66 v71 v76 v81 v86 v91 v95 X (ix2 l a) = (dt w b a (x l) : EReal) := by
  pointwise [k0_pay28, dot_S512x20_S20x20_S512x20_1_1_0_0_n_n]
  simp only [hot_apply hX, hP, Coe.mul, Coe.sum, ite_mul, one_mul, zero_mul, Finset.sum_ite_eq', Finset.mem_univ, if_true]

/-- The table's diagonal entry of each position's token. -/
theorem diagonal_apply (hX : ∀ l, X (ix2 l 0) = BitVec.ofNat 32 (x l).val) (l : Fin 512) (a : Fin 20) :
    k0_pay29 (F := Ideal) v4 v16 v21 v26 v31 v36 v41 v46 v51 v56 v61 v66 v71 v76 v81 v86 v91 v95 X (ix2 l a) = (dt w b (x l) (x l) : EReal) := by
  pointwise [k0_pay29]
  simp only [hot_apply hX, column_apply hP hX, Coe.mul, Coe.sum, mul_ite, mul_one, mul_zero, Finset.sum_ite_eq',
    Finset.mem_univ, if_true]

end

/-- A sum of an array picked out by a one-hot row. -/
theorem pick (f : Fin 20 → ℝ) (t : Fin 20) : ∑ a, (if a = t then 1 else 0 : ℝ) * f a = f t := by
  simp

section
variable (hX : ∀ l, X (ix2 l 0) = BitVec.ofNat 32 (x l).val) (hW : ∀ a h, W (ix2 a h) = (w a h : EReal))
  (hB : ∀ h, B (ix2 0 h) = (b h : EReal))
include hW hB

/-- The table is the directional derivatives. -/
theorem dt_apply (a t : Fin 20) : k0_pay25 (k0_pay5 W) (k0_pay7 W B) (k0_pay8 W B) (k0_pay9 W B) (k0_pay10 W B)
      (k0_pay11 W B) (k0_pay12 W B) (k0_pay14 (k0_pay13 W B)) (k0_pay15 (k0_pay5 W) (k0_pay7 W B))
      (k0_pay16 (k0_pay5 W) (k0_pay7 W B)) (k0_pay17 (k0_pay5 W) (k0_pay7 W B)) (k0_pay18 (k0_pay5 W) (k0_pay7 W B))
      (k0_pay19 (k0_pay5 W) (k0_pay7 W B)) (k0_pay20 (k0_pay5 W) (k0_pay7 W B)) (k0_pay21 (k0_pay5 W) (k0_pay7 W B))
      (k0_pay22 (k0_pay5 W) (k0_pay7 W B)) (k0_pay23 (k0_pay5 W) (k0_pay7 W B)) (k0_pay24 (k0_pay5 W) (k0_pay7 W B))
      (ix2 a t) = (dt w b a t : EReal) := by
  rw [table_apply]
  simp only [slope_apply hW hB]
  pointwise [k0_pay5]
  simp only [hW, Coe.mul, Coe.sum]
  rfl

include hX

/-- The first output at an index: a position's twenty logits, its partition sum, and zeros. -/
theorem out3_apply (l : Fin 512) (k : Fin 32) : out0_3 X W B (ix2 l k)
    = (tableAt w b (x l) k : EReal) := by
  unfold tableAt
  unfold_out out0_3
  rw [View.canon_unit_zero (by decide)]
  simp only [View.ld_unit_zero (S := S20x64) (by decide : (![0, 0] : Fin 2 → Nat) = fun _ => 0),
    View.ld_unit_zero (S := S1x64) (by decide : (![0, 0] : Fin 2 → Nat) = fun _ => 0),
    View.ld_unit_zero (S := S512x1) (by decide : (![0, 0] : Fin 2 → Nat) = fun _ => 0)]
  pointwise [k0_pay2, k0_pay1]
  simp only [hot_apply hX, ex_apply (dt_apply hW hB), column_apply (dt_apply hW hB) hX, diagonal_apply (dt_apply hW hB) hX,
    Coe.mul, Coe.sub, Coe.ofBits_T, Coe.div T_pos.ne', Coe.sum, pick]
  by_cases h : k.val < 20
  · rw [dif_pos h, dif_pos h]; rfl
  · rw [dif_neg h, dif_neg h]
    by_cases h' : k.val = 20
    · rw [dif_pos (by omega), if_pos h']
    · rw [dif_neg (by omega), if_neg h']; rfl

omit hX hB in
/-- The rectified weights. -/
theorem relu_apply (a : Fin 20) (h : Fin 64) : k0_pay6 W (ix2 a h) = (relu w a h : EReal) := by
  pointwise [k0_pay6, k0_pay5]
  rw [hW, Coe.sup_zero]; rfl

omit hX hB in
/-- The second output at an index: the rectified weights. -/
theorem out4_apply (a : Fin 20) (h : Fin 64) : out0_4 X W B (ix2 a h) = (relu w a h : EReal) := by
  unfold_out out0_4
  rw [View.canon_unit_zero (by decide)]
  simp only [View.ld_unit_zero (S := S20x64) (by decide : (![0, 0] : Fin 2 → Nat) = fun _ => 0),
    View.ld_unit_zero (S := S1x64) (by decide : (![0, 0] : Fin 2 → Nat) = fun _ => 0),
    View.ld_unit_zero (S := S512x1) (by decide : (![0, 0] : Fin 2 → Nat) = fun _ => 0)]
  exact relu_apply hW a h

omit hX hW hB in
/-- The counts of the tokens weigh the rectified weights to the sum over the positions. -/
theorem counts (f : Fin 20 → ℝ) : ∑ a, (∑ l, if a = x l then (1 : ℝ) else 0) * f a = ∑ l, f (x l) := by
  simp only [Finset.sum_mul]
  rw [Finset.sum_comm]
  exact Finset.sum_congr rfl fun l _ => pick f (x l)

/-- The third output at an index: the partition sums by token, the partition function, the score, zeros, the averages. -/
theorem out5_apply (k : Fin 128) : out0_5 X W B (ix2 0 k)
    = (smallAt w b x k : EReal) := by
  unfold smallAt
  unfold_out out0_5
  rw [View.canon_unit_zero (by decide)]
  simp only [View.ld_unit_zero (S := S20x64) (by decide : (![0, 0] : Fin 2 → Nat) = fun _ => 0),
    View.ld_unit_zero (S := S1x64) (by decide : (![0, 0] : Fin 2 → Nat) = fun _ => 0),
    View.ld_unit_zero (S := S512x1) (by decide : (![0, 0] : Fin 2 → Nat) = fun _ => 0)]
  pointwise [k0_pay3, k0_pay1, k0_pay4, dot_S1x20_S20x64_S1x64_1_0_0_1_n_n]
  simp only [hot_apply hX, ex_apply (dt_apply hW hB), relu_apply hW, hB, Coe.mul, Coe.sub, Coe.ofBits_inv, Coe.sum, pick, counts]
  by_cases h1 : k.val < 20
  · rw [dif_pos h1, dif_pos h1]
  rw [dif_neg h1, dif_neg h1]
  by_cases h2 : k.val = 20
  · rw [dif_pos (show k.val - 20 < 1 by omega), if_pos h2]; rfl
  rw [dif_neg (show ¬k.val - 20 < 1 by omega), if_neg h2]
  by_cases h3 : k.val = 21
  · rw [dif_pos (show k.val - 20 - 1 < 1 by omega), if_pos h3]; rfl
  rw [dif_neg (show ¬k.val - 20 - 1 < 1 by omega), if_neg h3]
  by_cases h4 : k.val < 64
  · rw [dif_pos (show k.val - 20 - 1 - 1 < 42 by omega), if_pos h4]; rfl
  rw [dif_neg (show ¬k.val - 20 - 1 - 1 < 42 by omega), if_neg h4]
  simp only [Nat.sub_sub, Nat.reduceAdd]
  rfl

end

end Cert.KernelIdeal.Tables

end
-- ==== Proof.RefStages.lean ====
/- The reference's computation, cut into named stages. Each `def` is what one stretch of host operations of `main` computes, as a
   function of the arrays it reads. `RefRun.lean` shows that the program leaves these values, `RefRead*.lean` read them at an index. -/
module

public import proofs.«01_k».proof.ReferenceIdeal
public import proofs.«01_k».proof.Proof.Gen.ReferenceIdeal
public import Idealize.ShloMosaic.PureOps.Ideal

@[expose] public section

noncomputable section

namespace Cert.ReferenceIdeal.Stage

open Cert.ReferenceIdeal Cert.ReferenceIdeal.Gen Idealize.ShloMosaic

/-- An array of extended reals, the ideal instance's f32. -/
abbrev R (s : Shape) : Type := FVec Ideal s .f32
/-- An array of 32-bit words. -/
abbrev I (s : Shape) : Type := IVec s 32

/-- The scalar zero. -/
abbrev zero : R S_ := constant S_ .f32 0x00000000#32

/-- The one-hot rows of the tokens. -/
def oneHot (x : I S512) : R S512x20 :=
  uitofp .f32 (cmpi .eq (broadcastInDim S512x20 ![0, 1] bcast_S512x1_S512x20_0_1 (broadcastInDim S512x1 ![0] bcast_S512_S512x1_0 x)) (broadcastInDim S512x20 ![0, 1] bcast_S1x20_S512x20_0_1 (iotaInDim S1x20 32 1)))

/-- The one-hot rows as a batch of one sequence. -/
def oneHot1 (o : R S512x20) : R S1x512x20 := broadcastInDim S1x512x20 ![1, 2] bcast_S512x20_S1x512x20_1_2 o

/-- The hidden layer before its activation, of the one sequence. -/
def hid1 (o : R S512x20) (W : R S20x64) : R S1x512x64 :=
  Host.dotGeneral dot_S1x512x20_S20x64_S1x512x64_2_0_01_1_n_n none (oneHot1 o) W

/-- The predictor's gradient with respect to the one-hot entries, of the one sequence. -/
def grad1 (o : R S512x20) (W : R S20x64) (b : R S64) : R S1x512x20 :=
  Host.dotGeneral dot_S1x512x64_S20x64_S1x512x20_2_1_01_0_n_n none (mulf (broadcastInDim S1x512x64 ![0, 2] bcast_S1x64_S1x512x64_0_2 (Host.divf (mulf (broadcastInDim S1x64 ![0] bcast_S1_S1x64_0 (broadcastInDim S1 ![] bcast_S_S1 (constant S_ .f32 0x3F800000#32))) (broadcastInDim S1x64 ![1] bcast_S64_S1x64_1 b)) (broadcastInDim S1x64 ![] bcast_S_S1x64 (constant S_ .f32 0x44000000#32)))) (select (cmpf .ogt (hid1 o W) (broadcastInDim S1x512x64 ![] bcast_S_S1x512x64 zero)) (broadcastInDim S1x512x64 ![] bcast_S_S1x512x64 (constant S_ .f32 0x3F800000#32)) (select (cmpf .oeq (hid1 o W) (broadcastInDim S1x512x64 ![] bcast_S_S1x512x64 zero)) (broadcastInDim S1x512x64 ![] bcast_S_S1x512x64 (constant S_ .f32 0x3F000000#32)) (broadcastInDim S1x512x64 ![] bcast_S_S1x512x64 zero)))) W

/-- The local differences of the source sequence: the gradient less its entry at the present token. -/
def delta1 (o : R S512x20) (W : R S20x64) (b : R S64) : R S512x20 :=
  shapeCast _ (subf (grad1 o W b) (broadcastInDim S1x512x20 ![0, 1, 2] bcast_S1x512x1_S1x512x20_0_1_2 (broadcastInDim S1x512x1 ![0, 1] bcast_S1x512_S1x512x1_0_1 (Host.reduceAdd (mulf (grad1 o W b) (oneHot1 o)) zero reducesTo_S1x512x20_S1x512_d2 h_S_)))) shapeCasts_S1x512x20_S512x20

/-- The source's logits: the differences flattened and divided by the temperature. -/
def logits (d : R S512x20) : R S10240 :=
  Host.divf (shapeCast _ d shapeCasts_S512x20_S10240) (broadcastInDim S10240 ![] bcast_S_S10240 (constant S_ .f32 0x3DCCCCCD#32))

/-- The logits as one row. -/
def logitRow (d : R S512x20) : R S1x10240 := broadcastInDim S1x10240 ![1] bcast_S10240_S1x10240_1 (logits d)

/-- The Gumbel noise of the uniform draws. -/
def noise (u : R S1024x10240) : R S1024x10240 :=
  Host.negf (Host.log (Host.negf (Host.log (minimumf (broadcastInDim S1024x10240 ![] bcast_S_S1024x10240 (id (constant S_ .f32 0x3F800000#32))) (maximumf (broadcastInDim S1024x10240 ![] bcast_S_S1024x10240 (id (constant S_ .f32 0x3089705F#32))) u)))))

/-- The index of each row's greatest perturbed logit. -/
def pick (lr : R S1x10240) (g : R S1024x10240) : I S1024 :=
  fun j => (Host.argReduce reducer_argmax_f32_i32 (addf (broadcastInDim S1024x10240 ![0, 1] bcast_S1x10240_S1024x10240_0_1 lr) g) (iotaInDim S1024x10240 32 1) (constant S_ .f32 0xFF800000#32) (constantI S_ 32 0#32) reducesTo_S1024x10240_S1024_d1 h_S_ j).2

/-- The number of tokens, twenty, as the private functions take it. -/
abbrev twenty : I S_ := id (constantI S_ 32 20#32)

/-- The position that a flat index names: the index floor-divided by twenty. -/
def posOf (k : I S1024) : I S1024 :=
  select (andi (cmpi .ne (signi k) (broadcastInDim S1024 ![] bcast_S_S1024 (signi twenty))) (cmpi .ne (Host.remsi k (broadcastInDim S1024 ![] bcast_S_S1024 twenty)) (broadcastInDim S1024 ![] bcast_S_S1024 (constantI S_ 32 0#32)))) (subi (Host.divsi k (broadcastInDim S1024 ![] bcast_S_S1024 twenty)) (broadcastInDim S1024 ![] bcast_S_S1024 (constantI S_ 32 1#32))) (Host.divsi k (broadcastInDim S1024 ![] bcast_S_S1024 twenty))

/-- The divisor that the remainder uses: twenty, guarded against zero. -/
def guarded : I S_ := select (cmpi .eq twenty (constantI S_ 32 0#32)) (constantI S_ 32 1#32) twenty

/-- The remainder before its sign is corrected. -/
def remOf (k : I S1024) : I S1024 := Host.remsi k (broadcastInDim S1024 ![] bcast_S_S1024 guarded)

/-- The token that a flat index names: the index modulo twenty. -/
def tokOf (k : I S1024) : I S1024 :=
  select (andi (cmpi .ne (cmpi .slt (remOf k) (broadcastInDim S1024 ![] bcast_S_S1024 (constantI S_ 32 0#32))) (broadcastInDim S1024 ![] bcast_S_S1024 (cmpi .slt guarded (constantI S_ 32 0#32)))) (cmpi .ne (remOf k) (broadcastInDim S1024 ![] bcast_S_S1024 (constantI S_ 32 0#32)))) (addi (remOf k) (broadcastInDim S1024 ![] bcast_S_S1024 guarded)) (remOf k)

/-- An index column, a negative index counted from the end `n`. -/
def col (k : I S1024) (n : BitVec 32) : I S1024x1 :=
  broadcastInDim S1024x1 ![0] bcast_S1024_S1024x1_0 (select (cmpi .slt k (broadcastInDim S1024 ![] bcast_S_S1024 (constantI S_ 32 0#32))) (addi k (broadcastInDim S1024 ![] bcast_S_S1024 (constantI S_ 32 n))) k)

/-- The chain numbers. -/
abbrev chains : I S1024 := iotaInDim S1024 32 0

/-- Two index columns side by side. -/
def cols2 (a b : I S1024x1) : I S1024x2 := concatenate S1024x2 1 [⟨S1024x1, a⟩, ⟨S1024x1, b⟩] concatenates_S1024x1_S1024x1_S1024x2_d1

/-- Three index columns side by side. -/
def cols3 (a b c : I S1024x1) : I S1024x3 :=
  concatenate S1024x3 1 [⟨S1024x1, a⟩, ⟨S1024x1, b⟩, ⟨S1024x1, c⟩] concatenates_S1024x1_S1024x1_S1024x1_S1024x3_d1

/-- Each chain's copy of the sequence with its picked token written at its picked position. -/
def mutants (x : I S512) (p t : I S1024) : I S1024x512 :=
  Host.scatter scatter_S1024x512_S1024x2_S1024_n_01_01_1 (fun _ b => b) (shapeCast _ (broadcastInDim S1024x1x1x512 ![0, 1, 2, 3] bcast_S1x1x1x512_S1024x1x1x512_0_1_2_3 (shapeCast _ (broadcastInDim S1x512 ![1] bcast_S512_S1x512_1 x) shapeCasts_S1x512_S1x1x1x512)) shapeCasts_S1024x1x1x512_S1024x512) (cols2 (col chains 1024#32) (col p 512#32)) t

/-- The one-hot rows of the mutants. -/
def oneHotG (y : I S1024x512) : R S1024x512x20 :=
  uitofp .f32 (cmpi .eq (broadcastInDim S1024x512x20 ![0, 1, 2] bcast_S1024x512x1_S1024x512x20_0_1_2 (broadcastInDim S1024x512x1 ![0, 1] bcast_S1024x512_S1024x512x1_0_1 y)) (broadcastInDim S1024x512x20 ![0, 1, 2] bcast_S1x1x20_S1024x512x20_0_1_2 (iotaInDim S1x1x20 32 2)))

/-- The mutants' hidden layer before its activation. -/
def hidG (o : R S1024x512x20) (W : R S20x64) : R S1024x512x64 :=
  Host.dotGeneral dot_S1024x512x20_S20x64_S1024x512x64_2_0_01_1_n_n none o W

/-- The mutants' scores. -/
def scoreG (o : R S1024x512x20) (W : R S20x64) (b : R S64) : R S1024 :=
  Host.reduceAdd (mulf (Host.divf (Host.reduceAdd (maximumf (hidG o W) (broadcastInDim S1024x512x64 ![] bcast_S_S1024x512x64 zero)) zero reducesTo_S1024x512x64_S1024x64_d1 h_S_) (broadcastInDim S1024x64 ![] bcast_S_S1024x64 (constant S_ .f32 0x44000000#32))) (broadcastInDim S1024x64 ![0, 1] bcast_S1x64_S1024x64_0_1 (broadcastInDim S1x64 ![1] bcast_S64_S1x64_1 b))) zero reducesTo_S1024x64_S1024_d1 h_S_

/-- The source's score. -/
def score1 (o : R S512x20) (W : R S20x64) (b : R S64) : R S_ :=
  shapeCast _ (Host.reduceAdd (mulf (Host.divf (Host.reduceAdd (maximumf (hid1 o W) (broadcastInDim S1x512x64 ![] bcast_S_S1x512x64 zero)) zero reducesTo_S1x512x64_S1x64_d1 h_S_) (broadcastInDim S1x64 ![] bcast_S_S1x64 (constant S_ .f32 0x44000000#32))) (broadcastInDim S1x64 ![1] bcast_S64_S1x64_1 b)) zero reducesTo_S1x64_S1_d1 h_S_) shapeCasts_S1_S_

/-- The difference of the scores. -/
def rise (sg : R S1024) (s1 : R S_) : R S1024 := subf sg (broadcastInDim S1024 ![] bcast_S_S1024 s1)

/-- The predictor's gradient with respect to the one-hot entries, of the mutants. -/
def gradG (o : R S1024x512x20) (W : R S20x64) (b : R S64) : R S1024x512x20 :=
  Host.dotGeneral dot_S1024x512x64_S20x64_S1024x512x20_2_1_01_0_n_n none (mulf (broadcastInDim S1024x512x64 ![0, 2] bcast_S1024x64_S1024x512x64_0_2 (Host.divf (mulf (broadcastInDim S1024x64 ![0] bcast_S1024_S1024x64_0 (broadcastInDim S1024 ![] bcast_S_S1024 (constant S_ .f32 0x3F800000#32))) (broadcastInDim S1024x64 ![0, 1] bcast_S1x64_S1024x64_0_1 (broadcastInDim S1x64 ![1] bcast_S64_S1x64_1 b))) (broadcastInDim S1024x64 ![] bcast_S_S1024x64 (constant S_ .f32 0x44000000#32)))) (select (cmpf .ogt (hidG o W) (broadcastInDim S1024x512x64 ![] bcast_S_S1024x512x64 zero)) (broadcastInDim S1024x512x64 ![] bcast_S_S1024x512x64 (constant S_ .f32 0x3F800000#32)) (select (cmpf .oeq (hidG o W) (broadcastInDim S1024x512x64 ![] bcast_S_S1024x512x64 zero)) (broadcastInDim S1024x512x64 ![] bcast_S_S1024x512x64 (constant S_ .f32 0x3F000000#32)) (broadcastInDim S1024x512x64 ![] bcast_S_S1024x512x64 zero)))) W

/-- The local differences of the mutants. -/
def deltaG (g o : R S1024x512x20) : R S1024x512x20 :=
  subf g (broadcastInDim S1024x512x20 ![0, 1, 2] bcast_S1024x512x1_S1024x512x20_0_1_2 (broadcastInDim S1024x512x1 ![0, 1] bcast_S1024x512_S1024x512x1_0_1 (Host.reduceAdd (mulf g o) zero reducesTo_S1024x512x20_S1024x512_d2 h_S_)))

/-- The source's logits less their maximum. -/
def shift1 (d : R S512x20) : R S10240 :=
  subf (logits d) (broadcastInDim S10240 ![0] bcast_S1_S10240_0 (broadcastInDim S1 ![] bcast_S_S1 (maximumf (constant S_ .f32 0xFF800000#32) (Host.reduce FloatOps.maximumf (logits d) (constant S_ .f32 0xFF800000#32) reducesTo_S10240_S_d0 h_S_))))

/-- The source's proposal distribution: the softmax of its logits. -/
def soft1 (z : R S10240) : R S512x20 :=
  shapeCast _ (Host.divf (Host.exp z) (broadcastInDim S10240 ![0] bcast_S1_S10240_0 (broadcastInDim S1 ![] bcast_S_S1 (Host.reduceAdd (Host.exp z) zero reducesTo_S10240_S_d0 h_S_)))) shapeCasts_S10240_S512x20

/-- The mutants' logits. -/
def logitsG (d : R S1024x512x20) : R S1024x10240 :=
  Host.divf (shapeCast _ d shapeCasts_S1024x512x20_S1024x10240) (broadcastInDim S1024x10240 ![] bcast_S_S1024x10240 (constant S_ .f32 0x3DCCCCCD#32))

/-- The exponentials of the mutants' logits less each row's maximum. -/
def expG (l : R S1024x10240) : R S1024x10240 :=
  Host.exp (subf l (broadcastInDim S1024x10240 ![0, 1] bcast_S1024x1_S1024x10240_0_1 (broadcastInDim S1024x1 ![0] bcast_S1024_S1024x1_0 (maximumf (broadcastInDim S1024 ![] bcast_S_S1024 (constant S_ .f32 0xFF800000#32)) (Host.reduce FloatOps.maximumf l (constant S_ .f32 0xFF800000#32) reducesTo_S1024x10240_S1024_d1 h_S_)))))

/-- The mutants' proposal distributions. -/
def softG (e : R S1024x10240) : R S1024x512x20 :=
  shapeCast _ (Host.divf e (broadcastInDim S1024x10240 ![0, 1] bcast_S1024x1_S1024x10240_0_1 (broadcastInDim S1024x1 ![0] bcast_S1024_S1024x1_0 (Host.reduceAdd e zero reducesTo_S1024x10240_S1024_d1 h_S_)))) shapeCasts_S1024x10240_S1024x512x20

/-- The acceptance ratios: the score's rise, exponentiated, times the ratio of the two proposal probabilities. -/
def accept (r : R S1024) (qm : R S1024x512x20) (qs : R S512x20) (p t : I S1024) : R S1024 :=
  mulf (Host.exp r) (Host.divf (Host.gather gather_S1024x512x20_S1024x3_S1024_n_012_n_n_012_1_111 qm (cols3 (col chains 1024#32) (col p 512#32) (col t 20#32))) (Host.gather gather_S512x20_S1024x2_S1024_n_01_n_n_01_1_11 qs (cols2 (col p 512#32) (col t 20#32))))

/-- The flat index that each chain picks. -/
def picked (x : I S512) (u : R S1024x10240) (W : R S20x64) (b : R S64) : I S1024 :=
  pick (logitRow (delta1 (oneHot x) W b)) (noise u)

/-- The third result: the mutants. -/
def resMutants (x : I S512) (u : R S1024x10240) (W : R S20x64) (b : R S64) : I S1024x512 :=
  mutants x (posOf (picked x u W b)) (tokOf (picked x u W b))

/-- The fourth result: the mutants' scores. -/
def resScore (x : I S512) (u : R S1024x10240) (W : R S20x64) (b : R S64) : R S1024 :=
  scoreG (oneHotG (resMutants x u W b)) W b

/-- The first result: the acceptance ratios. -/
def resAccept (x : I S512) (u : R S1024x10240) (W : R S20x64) (b : R S64) : R S1024 :=
  accept (rise (scoreG (oneHotG (resMutants x u W b)) W b) (score1 (oneHot x) W b))
    (softG (expG (logitsG (deltaG (gradG (oneHotG (resMutants x u W b)) W b) (oneHotG (resMutants x u W b))))))
    (soft1 (shift1 (delta1 (oneHot x) W b))) (posOf (picked x u W b)) (tokOf (picked x u W b))

end Cert.ReferenceIdeal.Stage

end
-- ==== Proof.Arg.lean ====
/- The index of a row's greatest entry, the lowest one at a tie, as the two programs find it; the perturbed logits, of which both take
   it; and a flat index split into a position and a token. -/
module

public import proofs.«01_k».proof.Proof.RefStages
public import proofs.«01_k».proof.Proof.Coe

@[expose] public section

set_option maxRecDepth 16384

noncomputable section

namespace Cert.Arg

open Idealize.ShloMosaic

variable {n : ℕ}

/-- `k` is the lowest index at which `y` is greatest. -/
def IsFirst (y : Fin n → EReal) (k : Fin n) : Prop := (∀ j, y j ≤ y k) ∧ ∀ j, y j = y k → k ≤ j

/-- A row that isn't empty has such an index. -/
theorem exists_first (y : Fin n → EReal) (hn : 0 < n) : ∃ k, IsFirst y k := by
  classical
  haveI : Nonempty (Fin n) := ⟨⟨0, hn⟩⟩
  obtain ⟨m, -, hm⟩ := Finset.exists_max_image Finset.univ y Finset.univ_nonempty
  have hne : (Finset.univ.filter fun j => y j = y m).Nonempty := ⟨m, by simp⟩
  obtain ⟨k, hk, hmin⟩ := Finset.exists_min_image _ id hne
  have e : y k = y m := (Finset.mem_filter.1 hk).2
  exact ⟨k, fun j => e ▸ hm j (Finset.mem_univ j), fun j hj => hmin j (by simp [hj, e])⟩

/-- The greatest entry as a fold of maxima from minus infinity. -/
theorem fold_max {y : Fin n → EReal} {k : Fin n} (h : IsFirst y k) : Finset.fold max ⊥ y Finset.univ = y k := by
  refine le_antisymm ((Finset.fold_max_le _).2 ⟨bot_le, fun j _ => h.1 j⟩) ?_
  exact (Finset.le_fold_max _).2 (Or.inr ⟨k, Finset.mem_univ k, le_rfl⟩)

theorem toInt_minsi (a b : BitVec 32) : (IntOp.minsi a b).toInt = min a.toInt b.toInt := by
  unfold IntOp.minsi
  by_cases h : a.slt b = true
  · rw [if_pos h]; rw [BitVec.slt_iff_toInt_lt] at h; exact (min_eq_left h.le).symm
  · rw [if_neg h]; rw [BitVec.slt_iff_toInt_lt] at h; exact (min_eq_right (not_lt.1 h)).symm

/-- The least index at which the entry is the greatest one, as a fold of signed minima. -/
theorem fold_min {y : Fin n → EReal} {k : Fin n} (h : IsFirst y k) (hn : n < 2 ^ 31) (c : BitVec 32) (hc : (n : ℤ) ≤ c.toInt)
    (d : BitVec 32) (hd : (n : ℤ) ≤ d.toInt) (m : EReal) (hm : m = y k) :
    Finset.fold IntOp.minsi c (fun j : Fin n => if y j = m then BitVec.ofNat 32 j.val else d) Finset.univ = BitVec.ofNat 32 k.val := by
  subst hm
  have ht : ∀ j : Fin n, (BitVec.ofNat 32 j.val).toInt = j.val := fun j => WordCmp.toInt_ofNat_of_lt (by have := j.2; omega)
  apply BitVec.eq_of_toInt_eq
  have e := Finset.fold_hom (op := IntOp.minsi) (op' := fun a b : ℤ => min a b) (m := BitVec.toInt) toInt_minsi (s := Finset.univ)
    (b := c) (f := fun j : Fin n => if y j = y k then BitVec.ofNat 32 j.val else d)
  rw [← e, ht k]
  have hk := k.2
  refine le_antisymm ?_ ?_
  · refine (Finset.fold_min_le _).2 (Or.inr ⟨k, Finset.mem_univ k, ?_⟩)
    simp only [if_true, ht, le_refl]
  · refine (Finset.le_fold_min _).2 ⟨by omega, fun j _ => ?_⟩
    by_cases hj : y j = y k
    · rw [if_pos hj, ht]; exact_mod_cast h.2 j hj
    · rw [if_neg hj]; omega

open Cert.ReferenceIdeal in
/-- One step of the reference's search, on pairs of a value and an index. -/
theorem step (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  have hs : (IntOp.cmpi .slt a2 b2 = 1#1) ↔ a2.toInt < b2.toInt := IntOp.cmpi_slt
  rcases lt_trichotomy b1 a1 with h | h | h
  · have h' : ¬ a1 = b1 := h.ne'
    simp [reducer_argmax_f32_i32, Ideal.cmpf_def, Ideal.cmp, h, h', IntOp.ori, IntOp.andi, Scalar.select]
  · subst h
    by_cases h2 : a2.toInt < b2.toInt
    · simp [reducer_argmax_f32_i32, Ideal.cmpf_def, Ideal.cmp, h2, hs.2 h2, IntOp.ori, IntOp.andi, Scalar.select]
    · have : IntOp.cmpi .slt a2 b2 = 0#1 := by
        rcases BitVec.eq_zero_or_eq_one (IntOp.cmpi .slt a2 b2) with h | h
        · exact h
        · exact absurd (hs.1 h) h2
      simp [reducer_argmax_f32_i32, Ideal.cmpf_def, Ideal.cmp, h2, this, IntOp.ori, IntOp.andi, Scalar.select]
  · have h' : ¬ b1 < a1 := not_lt.2 h.le
    have h'' : ¬ a1 = b1 := h.ne
    simp [reducer_argmax_f32_i32, Ideal.cmpf_def, Ideal.cmp, h', h'', IntOp.ori, IntOp.andi, Scalar.select]

open Cert.ReferenceIdeal in
/-- The reference's search along any list of a row's entries that holds the first greatest one ends there. -/
theorem foldl_first {y : Fin n → EReal} {k : Fin n} (h : IsFirst y k) (hn : n < 2 ^ 31) (l : List (EReal × BitVec 32))
    (hl : ∀ p ∈ l, ∃ j : Fin n, p = (y j, BitVec.ofNat 32 j.val)) (hk : (y k, BitVec.ofNat 32 k.val) ∈ l) :
    l.foldl (reducer_argmax_f32_i32 (F := Ideal)) (⊥, 0#32) = (y k, BitVec.ofNat 32 k.val) := by
  have ht : ∀ j : Fin n, (BitVec.ofNat 32 j.val).toInt = j.val := fun j => WordCmp.toInt_ofNat_of_lt (by have := j.2; omega)
  have key : ∀ (l : List (EReal × BitVec 32)) (a : EReal × BitVec 32),
      (a = (⊥, 0#32) ∨ ∃ j : Fin n, a = (y j, BitVec.ofNat 32 j.val)) → (∀ p ∈ l, ∃ j : Fin n, p = (y j, BitVec.ofNat 32 j.val)) →
      ((y k, BitVec.ofNat 32 k.val) ∈ l ∨ a = (y k, BitVec.ofNat 32 k.val)) →
      l.foldl (reducer_argmax_f32_i32 (F := Ideal)) a = (y k, BitVec.ofNat 32 k.val) := by
    intro l
    induction l with
    | nil => intro a _ _ h3; simpa using h3
    | cons p l ih =>
      intro a ha hp h3
      rw [List.foldl_cons]
      obtain ⟨j, hj⟩ := hp p (by simp)
      have hkeep : a = (y k, BitVec.ofNat 32 k.val) → reducer_argmax_f32_i32 (F := Ideal) a p = (y k, BitVec.ofNat 32 k.val) := by
        intro e
        rw [step, e, hj]
        rcases lt_or_eq_of_le (h.1 j) with hlt | heq
        · rw [if_pos (Or.inl hlt)]
        · rcases lt_or_eq_of_le (h.2 j heq) with hkj | hkj
          · rw [if_pos (Or.inr ⟨heq.symm, by simp only [ht]; exact_mod_cast hkj⟩)]
          · rw [hkj]; simp
      have htake : p = (y k, BitVec.ofNat 32 k.val) → reducer_argmax_f32_i32 (F := Ideal) a p = (y k, BitVec.ofNat 32 k.val) := by
        intro e
        rw [step, e]
        rcases ha with ha | ⟨i, ha⟩
        · rw [ha]
          rw [if_neg]
          rintro (hb | ⟨hb, hb'⟩)
          · exact absurd hb not_lt_bot
          · have h0 : y ⟨0, by have := k.2; omega⟩ = y k := le_antisymm (h.1 _) (by rw [← show (⊥ : EReal) = y k from hb]; exact bot_le)
            have := h.2 _ h0
            simp only [ht] at hb'
            have hk0 : k.val ≤ 0 := this
            have : (0 : ℤ) < k.val := hb'
            omega
        · rw [ha, if_neg]
          rintro (hb | ⟨hb, hb'⟩)
          · exact absurd hb (not_lt.2 (h.1 i))
          · simp only [ht] at hb'
            have h1 := h.2 i hb
            have : (k.val : ℤ) ≤ i.val := by exact_mod_cast h1
            omega
      refine ih _ ?_ (fun q hq => hp q (by simp [hq])) ?_
      · rw [step]
        split
        · exact ha
        · exact Or.inr ⟨j, hj⟩
      · rcases h3 with h3 | h3
        · rcases List.mem_cons.1 h3 with e | e
          · exact Or.inr (htake e.symm)
          · exact Or.inl e
        · exact Or.inr (hkeep h3)
  exact key l _ (Or.inl rfl) hl (Or.inl hk)

/-- The position that a flat index names. -/
def pos (k : Fin 10240) : Fin 512 := ⟨k.val / 20, by have := k.2; omega⟩
/-- The token that a flat index names. -/
def tok (k : Fin 10240) : Fin 20 := ⟨k.val % 20, Nat.mod_lt _ (by omega)⟩
/-- The flat index of a position and a token. -/
def flat (l : Fin 512) (a : Fin 20) : Fin 10240 := ⟨l.val * 20 + a.val, by have := l.2; have := a.2; omega⟩

theorem pos_flat (l : Fin 512) (a : Fin 20) : pos (flat l a) = l := Fin.ext (by simp only [pos, flat]; have := a.2; omega)
theorem tok_flat (l : Fin 512) (a : Fin 20) : tok (flat l a) = a := Fin.ext (by simp only [tok, flat]; have := a.2; omega)
theorem flat_pos_tok (k : Fin 10240) : flat (pos k) (tok k) = k := Fin.ext (by simp only [pos, tok, flat]; omega)

theorem divsi_twenty (u : ArithUnit) (k : Fin 10240) : IntOp.divsi u (BitVec.ofNat 32 k.val) 20#32 = BitVec.ofNat 32 (pos k).val := by
  have hk := k.2
  have hn : (BitVec.ofNat 32 k.val).toNat = k.val := by rw [BitVec.toNat_ofNat]; omega
  have hm : (BitVec.ofNat 32 k.val).msb = false := BitVec.msb_eq_false_iff_two_mul_lt.mpr (by omega)
  apply BitVec.eq_of_toNat_eq
  have hp : (BitVec.ofNat 32 (pos k).val).toNat = k.val / 20 := by simp only [pos, BitVec.toNat_ofNat]; omega
  rw [hp, IntOp.divsi, if_neg (IntOp.not_corner_of_pos (by decide)), BitVec.sdiv_eq, hm, show (20#32 : BitVec 32).msb = false from by decide]
  simp only [BitVec.udiv_eq, BitVec.toNat_udiv, hn]
  rfl

theorem remsi_twenty (u : ArithUnit) (k : Fin 10240) : IntOp.remsi u (BitVec.ofNat 32 k.val) 20#32 = BitVec.ofNat 32 (tok k).val := by
  have hk := k.2
  have hn : (BitVec.ofNat 32 k.val).toNat = k.val := by rw [BitVec.toNat_ofNat]; omega
  apply BitVec.eq_of_toNat_eq
  have hp : (BitVec.ofNat 32 (tok k).val).toNat = k.val % 20 := by simp only [tok, BitVec.toNat_ofNat]; omega
  rw [hp, show (20#32 : BitVec 32) = BitVec.ofNat 32 20 from rfl, IntOp.toNat_remsi u (by omega) 20 (by omega) (by omega), hn]

/-- What is left of a flat index after twenty times its position. -/
theorem sub_twenty (k : Fin 10240) : BitVec.ofNat 32 k.val - BitVec.ofNat 32 (pos k).val * 20#32 = BitVec.ofNat 32 (tok k).val := by
  have hk := k.2
  apply BitVec.eq_of_toNat_eq
  simp only [pos, tok, BitVec.toNat_sub, BitVec.toNat_mul, BitVec.toNat_ofNat]
  omega

/-- A word at which a nonzero remainder is impossible or the sign is the divisor's needs no correction. -/
theorem no_fix (k : Fin 10240) (h : BitVec.ofNat 32 (tok k).val ≠ 0#32) : 0 < (BitVec.ofNat 32 k.val).toInt := by
  have hk := k.2
  rw [WordCmp.toInt_ofNat_of_lt (by omega)]
  by_contra hc
  have h0 : k.val = 0 := by omega
  exact h (by simp [tok, h0])

/-- The literal of minus infinity. -/
theorem ofBits_bot : Ideal.ofBits .f32 4286578688#32 = ⊥ := by
  simp [Ideal.ofBits, Ideal.ieee]

/-- The literal of the least draw is a positive real. -/
theorem ofBits_eps : ∃ e : ℝ, 0 < e ∧ e < 1 ∧ Ideal.ofBits .f32 814313567#32 = (e : EReal) := by
  refine ⟨9007199 / 9007199254740992, by norm_num, by norm_num, ?_⟩
  simp [Ideal.ofBits, Ideal.ieee, -EReal.coe_mul]; norm_num

/-- The two programs' perturbed logits are one value, whatever the draw. -/
theorem gumbel (r : ℝ) (u : EReal) :
    (r : EReal) - Ideal.log (0 - Ideal.log (max u (Ideal.ofBits .f32 814313567#32)))
      = (r : EReal) + -Ideal.log (-Ideal.log (min 1 (max (Ideal.ofBits .f32 814313567#32) u))) := by
  obtain ⟨e, h0, h1, he⟩ := ofBits_eps
  rw [he, max_comm u, zero_sub, sub_eq_add_neg]
  have hv : (e : EReal) ≤ max (e : EReal) u := le_max_left _ _
  have hone : Ideal.log 1 = 0 := by
    rw [show (1 : EReal) = ((1 : ℝ) : EReal) from rfl, Ideal.log_coe, if_neg (by norm_num), Real.log_one]; rfl
  have hzero : Ideal.log 0 = ⊥ := by
    rw [show (0 : EReal) = ((0 : ℝ) : EReal) from rfl, Ideal.log_coe, if_pos le_rfl]
  generalize max (e : EReal) u = v at hv ⊢
  induction v with
  | bot => exact absurd hv (by simp)
  | top => simp [hone, hzero]
  | coe v =>
    have hv' : e ≤ v := by exact_mod_cast hv
    by_cases hle : v ≤ 1
    · rw [min_eq_right (by exact_mod_cast hle)]
    · have hlt : 1 < v := not_le.1 hle
      rw [min_eq_left (by exact_mod_cast hlt.le), hone, neg_zero, hzero, Ideal.log_coe, if_neg (by linarith), ← EReal.coe_neg, Ideal.log_coe,
        if_pos (by have := Real.log_pos hlt; linarith)]

end Cert.Arg

end
-- ==== Proof.Sample.lean ====
/- What one block of the second call computes, row by row: the picked entry, the mutant, its score, the acceptance ratio and the flag. -/
module

public import proofs.«01_k».proof.Proof.Coe
public import proofs.«01_k».proof.Proof.Arg
public import proofs.«01_k».proof.Proof.Gen.KernelIdeal.Frame
public import Idealize.ShloMosaic.PureOps.Ideal
public import Idealize.ShloMosaic.Lib.Pipeline.ValueKit
public import Idealize.ShloMosaic.Lib.Pointwise

@[expose] public section

set_option maxRecDepth 16384

noncomputable section

namespace Cert.KernelIdeal.Sample

open Idealize.ShloMosaic
open Cert.KernelIdeal Cert.KernelIdeal.Gen Cert.Spec

/-- The perturbed logits of one row. -/
def noisy (U : Vec Ideal S256x10240 .f32) (L : Vec Ideal S1x10240 .f32) (i : Fin 256) (j : Fin 10240) : EReal :=
  L (ix2 0 j) - Ideal.log (0 - Ideal.log (max (U (ix2 i j)) (Ideal.ofBits .f32 814313567#32)))

section pick
variable {U : Vec Ideal S256x10240 .f32} {L : Vec Ideal S1x10240 .f32} {i : Fin 256} {k : Fin 10240}
  (hk : Arg.IsFirst (noisy U L i) k)
include hk

theorem pick_apply : k1_pay4 U L (ix2 i 0) = BitVec.ofNat 32 k.val := by
  pointwise [k1_pay4]
  refine Arg.fold_min (y := noisy U L i) hk (by norm_num) _ (by decide) _ (by decide) _ ?_
  rw [Arg.ofBits_bot]
  exact Arg.fold_max hk

theorem pos_apply : k1_pay5 U L (ix2 i 0) = BitVec.ofNat 32 (Arg.pos k).val := by
  have h := pick_apply hk
  pointwise [k1_pay5]
  rw [h]
  exact Arg.divsi_twenty _ k

theorem fix_apply : k1_pay6 U L (ix2 i 0) = 0#1 := by
  have h := pick_apply hk
  pointwise [k1_pay6]
  rw [h, Arg.remsi_twenty]
  by_cases h0 : BitVec.ofNat 32 (Arg.tok k).val = 0#32
  · rw [h0]; simp [IntOp.cmpi, IntOp.andi]
  · have hp := Arg.no_fix k h0
    have h1 : IntOp.cmpi .sgt (BitVec.ofNat 32 k.val) 0#32 = 1#1 := IntOp.cmpi_sgt.2 (by simpa using hp)
    have h2 : IntOp.cmpi .slt (BitVec.ofNat 32 k.val) 0#32 = 0#1 := by
      rcases BitVec.eq_zero_or_eq_one (IntOp.cmpi .slt (BitVec.ofNat 32 k.val) 0#32) with e | e
      · exact e
      · exact absurd (IntOp.cmpi_slt.1 e) (by have : (0#32 : BitVec 32).toInt = 0 := by decide
                                              omega)
    rw [h1, h2]
    generalize IntOp.cmpi .ne (BitVec.ofNat 32 (Arg.tok k).val) 0#32 = c
    revert c; decide

theorem position_apply : k1_pay8 (k1_pay5 U L) (k1_pay6 U L) (k1_pay7 U L) (ix2 i 0) = BitVec.ofNat 32 (Arg.pos k).val := by
  have h5 := pos_apply hk
  have h6 := fix_apply hk
  unfold k1_pay8
  show Scalar.select (k1_pay6 U L (ix2 i 0)) _ (k1_pay5 U L (ix2 i 0)) = _
  rw [h5, h6]
  rfl

theorem token_apply : k1_pay9 (k1_pay4 U L) (k1_pay5 U L) (k1_pay6 U L) (k1_pay7 U L) (ix2 i 0) = BitVec.ofNat 32 (Arg.tok k).val := by
  have h4 := pick_apply hk
  have h8 := position_apply hk
  pointwise [k1_pay9]
  rw [h4, h8]
  exact Arg.sub_twenty k

end pick

/-- A sum of words of which only one may differ from zero. -/
theorem fold_one {n : ℕ} (p : Fin n) (f : Fin n → BitVec 32) :
    Finset.fold IntOp.addi 0#32 (fun l => if l = p then f l else 0#32) Finset.univ = f p := by
  classical
  have hz : ∀ s : Finset (Fin n), p ∉ s → Finset.fold IntOp.addi 0#32 (fun l => if l = p then f l else 0#32) s = 0#32 := by
    intro s
    induction s using Finset.induction_on with
    | empty => intro _; rfl
    | insert a s ha ih =>
      intro hp
      rw [Finset.fold_insert ha, ih (fun h => hp (Finset.mem_insert_of_mem h)), if_neg (fun h : a = p => hp (by rw [← h]; exact Finset.mem_insert_self a s))]
      rfl
  rw [← Finset.insert_erase (Finset.mem_univ p), Finset.fold_insert (Finset.notMem_erase p _), hz _ (Finset.notMem_erase p _), if_pos rfl]
  exact BitVec.add_zero _

section row
variable {w : Fin 20 → Fin 64 → ℝ} {b : Fin 64 → ℝ} {x : Fin 512 → Fin 20} {p : Fin 512} {a : Fin 20} {i : Fin 256}
  {v19 v21 v40 v42} {Q : Vec Ideal S1x512 .i32} {G : Vec Ideal S512x32 .f32} {R : Vec Ideal S20x64 .f32}
  {S : Vec Ideal S1x128 .f32} {B : Vec Ideal S1x64 .f32}
  (h8 : k1_pay8 v21 v40 v42 (ix2 i 0) = BitVec.ofNat 32 p.val)
  (h9 : k1_pay9 v19 v21 v40 v42 (ix2 i 0) = BitVec.ofNat 32 a.val)
  (hQ : ∀ l, Q (ix2 0 l) = BitVec.ofNat 32 (x l).val)
  (hG : ∀ (l : Fin 512) (k : Fin 32), G (ix2 l k) = (tableAt w b (x l) k : EReal))
  (hR : ∀ c h, R (ix2 c h) = (relu w c h : EReal))
  (hS : ∀ k : Fin 128, S (ix2 0 k) = (smallAt w b x k : EReal))
  (hB : ∀ h, B (ix2 0 h) = (b h : EReal))

include h8 h9 hQ in
/-- The mutant: the sequence with the picked token at the picked position. -/
theorem mutant_apply (l : Fin 512) : k1_pay11 (F := Ideal) v19 v21 v40 v42 Q (ix2 i l) = BitVec.ofNat 32 (Function.update x p a l).val := by
  pointwise [k1_pay11, k1_pay10]
  rw [h8, h9, hQ]
  refine (Coe.select_eq (n := 512) (by norm_num) l p _ _).trans ?_
  by_cases h : l = p
  · subst h; rw [if_pos rfl, Function.update_self]
  · rw [if_neg h, Function.update_of_ne h]

include h8 hG in
/-- The table's row of the picked position. -/
theorem tableRow_apply (k : Fin 32) : k1_pay12 (F := Ideal) v21 v40 v42 G (ix2 i k)
    = (tableAt w b (x p) k : EReal) := by
  pointwise [k1_pay12, k1_pay10, dot_S256x512_S512x32_S256x32_1_0_0_1_n_n]
  simp only [h8, hG, Coe.hot (n := 512) (by norm_num), Coe.mul, Coe.sum, ite_mul, one_mul, zero_mul, Finset.sum_ite_eq', Finset.mem_univ, if_true]

include h8 hQ in
/-- The token that the picked position held. -/
theorem old_apply : k1_pay13 (F := Ideal) v21 v40 v42 Q (ix2 i 0) = BitVec.ofNat 32 (x p).val := by
  pointwise [k1_pay13, k1_pay10]
  simp only [h8, hQ]
  rw [← fold_one p fun l => BitVec.ofNat 32 (x l).val]
  refine Finset.fold_congr fun l _ => ?_
  exact Coe.select_eq (n := 512) (by norm_num) l p _ _

include h8 h9 hG in
/-- The picked entry's logit. -/
theorem logit_apply : k1_pay15 (F := Ideal) v19 v21 v40 v42 G (ix2 i 0) = (lg w b a (x p) : EReal) := by
  have h12 := tableRow_apply h8 hG
  pointwise [k1_pay15, k1_pay14]
  simp only [h9, h12, Coe.select_eq (n := 20) (by norm_num), Finset.sum_ite_eq', Finset.mem_univ, if_true]
  unfold tableAt
  rw [dif_pos a.isLt]

include h8 hG in
/-- The partition sum of the picked position. -/
theorem sum_apply : k1_pay17 (k1_pay16 (F := Ideal) v21 v40 v42 G) (ix2 i 0) = (ex w b (x p) : EReal) := by
  have h12 := tableRow_apply h8 hG
  pointwise [k1_pay16, k1_pay17]
  have h20 := fun k : Fin 32 => Coe.select_eq (α := EReal) (n := 32) (by norm_num) k 20
  simp only [show (BitVec.ofNat 32 (20 : Fin 32).val) = 20#32 from rfl] at h20
  simp only [h12, h20, Finset.sum_ite_eq', Finset.mem_univ, if_true]
  rfl

include h9 hS in
/-- The partition sum of a position that holds the picked token. -/
theorem newSum_apply : k1_pay19 (F := Ideal) (k1_pay9 v19 v21 v40 v42) S (ix2 i 0) = (ex w b a : EReal) := by
  pointwise [k1_pay19, k1_pay18]
  have ha := fun k : Fin 128 => Coe.select_eq (α := EReal) (n := 128) (by norm_num) k ⟨a.val, by omega⟩
  simp only [h9, hS, ha, Finset.sum_ite_eq', Finset.mem_univ, if_true]
  unfold smallAt
  rw [dif_pos a.isLt]

include hS in
/-- The source's partition function. -/
theorem part_apply : k1_pay20 (F := Ideal) S (ix2 i 0) = (Z w b x : EReal) := by
  pointwise [k1_pay20, k1_pay18]
  have ha := fun k : Fin 128 => Coe.select_eq (α := EReal) (n := 128) (by norm_num) k 20
  simp only [show (BitVec.ofNat 32 (20 : Fin 128).val) = 20#32 from rfl] at ha
  simp only [hS, ha, Finset.sum_ite_eq', Finset.mem_univ, if_true]
  rfl

include hS in
/-- The source's score. -/
theorem srcScore_apply : k1_pay21 (F := Ideal) S (ix2 i 0) = (score w b x : EReal) := by
  pointwise [k1_pay21, k1_pay18]
  have ha := fun k : Fin 128 => Coe.select_eq (α := EReal) (n := 128) (by norm_num) k 21
  simp only [show (BitVec.ofNat 32 (21 : Fin 128).val) = 21#32 from rfl] at ha
  simp only [hS, ha, Finset.sum_ite_eq', Finset.mem_univ, if_true]
  rfl

include hS in
/-- The source's averaged hidden units. -/
theorem pool_apply (h : Fin 64) : k1_pay22 (F := Ideal) S (ix2 0 h) = (pool w x h : EReal) := by
  pointwise [k1_pay22, k1_pay18]
  rw [hS]
  unfold smallAt
  rw [dif_neg (show ¬64 + h.val < 20 by omega), if_neg (show ¬64 + h.val = 20 by omega), if_neg (show ¬64 + h.val = 21 by omega),
    if_neg (show ¬64 + h.val < 64 by omega)]
  simp only [Nat.add_sub_cancel_left]

include h8 h9 hQ hR in
/-- The change of the rectified hidden units. -/
theorem change_apply (h : Fin 64) : k1_pay23 (F := Ideal) (k1_pay9 v19 v21 v40 v42) (k1_pay13 (F := Ideal) v21 v40 v42 Q) k1_pay14 R R (ix2 i h)
    = ((relu w a h - relu w (x p) h : ℝ) : EReal) := by
  have h13 := old_apply h8 hQ
  pointwise [k1_pay23, k1_pay14, dot_S256x20_S20x64_S256x64_1_0_0_1_n_n]
  simp only [h9, h13, hR, Coe.hot (n := 20) (by norm_num), Coe.mul, Coe.sum, ite_mul, one_mul, zero_mul, Finset.sum_ite_eq', Finset.mem_univ, if_true,
    Coe.sub]

include h8 h9 hQ hR hS hB in
/-- The mutant's score. -/
theorem score_apply : k1_pay1 (F := Ideal) (k1_pay22 S) (k1_pay23 (k1_pay9 v19 v21 v40 v42) (k1_pay13 (F := Ideal) v21 v40 v42 Q) k1_pay14 R R) B (ix2 i 0)
    = (score w b (Function.update x p a) : EReal) := by
  have h22 := pool_apply hS
  have h23 := change_apply h8 h9 hQ hR
  pointwise [k1_pay1]
  simp only [h22, h23, hB, Coe.ofBits_inv, Coe.mul, Coe.add, Coe.sum]
  rw [score_update]

include h8 h9 hQ hG hR hS hB in
/-- The acceptance ratio. -/
theorem ratio_apply : k1_pay2 (F := Ideal) (k1_pay15 v19 v21 v40 v42 G) (k1_pay17 (k1_pay16 v21 v40 v42 G)) (k1_pay19 (k1_pay9 v19 v21 v40 v42) S)
      (k1_pay20 S) (k1_pay21 S) (k1_pay22 S) (k1_pay23 (k1_pay9 v19 v21 v40 v42) (k1_pay13 (F := Ideal) v21 v40 v42 Q) k1_pay14 R R) B (ix2 i 0)
    = (ratio w b x p a : EReal) := by
  have h15 := logit_apply h8 h9 hG
  have h17 := sum_apply h8 hG
  have h19 := newSum_apply (i := i) h9 hS
  have h20 := part_apply (i := i) hS
  have h21 := srcScore_apply (i := i) hS
  have h1 := score_apply h8 h9 hQ hR hS hB
  pointwise [k1_pay2]
  rw [h1, h15, h17, h19, h20, h21]
  simp only [Coe.sub, Coe.add, Coe.exp, Coe.mul]
  rw [Coe.div (den_pos w b x p a).ne', ratio_eq, mul_one_div]

include h8 h9 hQ hG hR hS hB in
/-- The flag of acceptance. -/
theorem flag_apply (M : Vec Ideal S256x1 .f32) : k1_pay3 (F := Ideal) (k1_pay15 v19 v21 v40 v42 G) (k1_pay17 (k1_pay16 v21 v40 v42 G)) (k1_pay19 (k1_pay9 v19 v21 v40 v42) S)
      (k1_pay20 S) (k1_pay21 S) (k1_pay22 S) (k1_pay23 (k1_pay9 v19 v21 v40 v42) (k1_pay13 (F := Ideal) v21 v40 v42 Q) k1_pay14 R R) B M (ix2 i 0)
    = (FloatOps.sitofp .f32 (BitVec.setWidth 32 (BitVec.ofBool (decide ((ratio w b x p a : EReal) < M (ix2 i 0))))) : Ideal .f32) := by
  have h2 := ratio_apply h8 h9 hQ hG hR hS hB
  pointwise [k1_pay3]
  rw [h2]

end row

section block
variable {w : Fin 20 → Fin 64 → ℝ} {b : Fin 64 → ℝ} {x : Fin 512 → Fin 20} {i : Fin 256} {k : Fin 10240}
  {U : Vec Ideal S256x10240 .f32} {L : Vec Ideal S1x10240 .f32}
  {Q : Vec Ideal S1x512 .i32} {G : Vec Ideal S512x32 .f32} {R : Vec Ideal S20x64 .f32}
  {S : Vec Ideal S1x128 .f32} {B : Vec Ideal S1x64 .f32} {M : Vec Ideal S256x1 .f32}
  (hk : Arg.IsFirst (noisy U L i) k)
  (hQ : ∀ l, Q (ix2 0 l) = BitVec.ofNat 32 (x l).val)
  (hG : ∀ (l : Fin 512) (k : Fin 32), G (ix2 l k) = (tableAt w b (x l) k : EReal))
  (hR : ∀ c h, R (ix2 c h) = (relu w c h : EReal))
  (hS : ∀ k : Fin 128, S (ix2 0 k) = (smallAt w b x k : EReal))
  (hB : ∀ h, B (ix2 0 h) = (b h : EReal))

include hk hQ in
/-- The block's mutants. -/
theorem out8_apply (l : Fin 512) : out1_8 U L G R S B Q M (ix2 i l) = BitVec.ofNat 32 (Function.update x (Arg.pos k) (Arg.tok k) l).val := by
  unfold_out out1_8
  rw [View.canon_unit_zero (by decide)]
  simp only [View.ld_unit_zero (S := S256x10240) (by decide : (![0, 0] : Fin 2 → Nat) = fun _ => 0),
    View.ld_unit_zero (S := S1x10240) (by decide : (![0, 0] : Fin 2 → Nat) = fun _ => 0),
    View.ld_unit_zero (S := S1x512) (by decide : (![0, 0] : Fin 2 → Nat) = fun _ => 0)]
  exact mutant_apply (position_apply hk) (token_apply hk) hQ l

include hk hQ hG hR hS hB in
/-- The block's acceptance ratios. -/
theorem out9_apply : out1_9 U L G R S B Q M (ix2 i 0) = (ratio w b x (Arg.pos k) (Arg.tok k) : EReal) := by
  unfold_out out1_9
  rw [View.canon_unit_zero (by decide)]
  simp only [View.ld_unit_zero (S := S256x10240) (by decide : (![0, 0] : Fin 2 → Nat) = fun _ => 0),
    View.ld_unit_zero (S := S1x10240) (by decide : (![0, 0] : Fin 2 → Nat) = fun _ => 0),
    View.ld_unit_zero (S := S512x32) (by decide : (![0, 0] : Fin 2 → Nat) = fun _ => 0),
    View.ld_unit_zero (S := S20x64) (by decide : (![0, 0] : Fin 2 → Nat) = fun _ => 0),
    View.ld_unit_zero (S := S1x128) (by decide : (![0, 0] : Fin 2 → Nat) = fun _ => 0),
    View.ld_unit_zero (S := S1x64) (by decide : (![0, 0] : Fin 2 → Nat) = fun _ => 0),
    View.ld_unit_zero (S := S1x512) (by decide : (![0, 0] : Fin 2 → Nat) = fun _ => 0)]
  exact ratio_apply (position_apply hk) (token_apply hk) hQ hG hR hS hB

include hk hQ hR hS hB in
/-- The block's scores. -/
theorem out10_apply : out1_10 U L G R S B Q M (ix2 i 0) = (score w b (Function.update x (Arg.pos k) (Arg.tok k)) : EReal) := by
  unfold_out out1_10
  rw [View.canon_unit_zero (by decide)]
  simp only [View.ld_unit_zero (S := S256x10240) (by decide : (![0, 0] : Fin 2 → Nat) = fun _ => 0),
    View.ld_unit_zero (S := S1x10240) (by decide : (![0, 0] : Fin 2 → Nat) = fun _ => 0),
    View.ld_unit_zero (S := S20x64) (by decide : (![0, 0] : Fin 2 → Nat) = fun _ => 0),
    View.ld_unit_zero (S := S1x128) (by decide : (![0, 0] : Fin 2 → Nat) = fun _ => 0),
    View.ld_unit_zero (S := S1x64) (by decide : (![0, 0] : Fin 2 → Nat) = fun _ => 0),
    View.ld_unit_zero (S := S1x512) (by decide : (![0, 0] : Fin 2 → Nat) = fun _ => 0)]
  exact score_apply (position_apply hk) (token_apply hk) hQ hR hS hB

include hk hQ hG hR hS hB in
/-- The block's flags. -/
theorem out11_apply : out1_11 U L G R S B Q M (ix2 i 0)
    = (FloatOps.sitofp .f32 (BitVec.setWidth 32 (BitVec.ofBool (decide ((ratio w b x (Arg.pos k) (Arg.tok k) : EReal) < M (ix2 i 0))))) : Ideal .f32) := by
  unfold_out out1_11
  rw [View.canon_unit_zero (by decide)]
  simp only [View.ld_unit_zero (S := S256x10240) (by decide : (![0, 0] : Fin 2 → Nat) = fun _ => 0),
    View.ld_unit_zero (S := S1x10240) (by decide : (![0, 0] : Fin 2 → Nat) = fun _ => 0),
    View.ld_unit_zero (S := S512x32) (by decide : (![0, 0] : Fin 2 → Nat) = fun _ => 0),
    View.ld_unit_zero (S := S20x64) (by decide : (![0, 0] : Fin 2 → Nat) = fun _ => 0),
    View.ld_unit_zero (S := S1x128) (by decide : (![0, 0] : Fin 2 → Nat) = fun _ => 0),
    View.ld_unit_zero (S := S1x64) (by decide : (![0, 0] : Fin 2 → Nat) = fun _ => 0),
    View.ld_unit_zero (S := S1x512) (by decide : (![0, 0] : Fin 2 → Nat) = fun _ => 0),
    View.ld_unit_zero (S := S256x1) (by decide : (![0, 0] : Fin 2 → Nat) = fun _ => 0)]
  exact flag_apply (position_apply hk) (token_apply hk) hQ hG hR hS hB M

end block

end Cert.KernelIdeal.Sample

end
-- ==== Proof.KernelRead.lean ====
/- What the kernel leaves in its result arrays, at an index, over real weights and tokens in range. -/
module

public import proofs.«01_k».proof.Proof.KernelRun
public import proofs.«01_k».proof.Proof.Tables
public import proofs.«01_k».proof.Proof.Sample
public import Idealize.ShloMosaic.Lib.StableHlo.ReadAt

@[expose] public section

set_option maxRecDepth 16384

noncomputable section

namespace Cert.KernelIdeal.Value

open Idealize.ShloMosaic
open Idealize.ShloMosaic.TcCoe
open Cert.KernelIdeal Cert.KernelIdeal.Gen Cert.Spec

section
variable (V : Valuation τ sig (Elt Ideal))

theorem host0_tokens (l : Fin 512) : StableHlo.after hostOps0 V (Proc.devRef .tc main_call0_v0) (ix2 l 0) = V (Proc.devRef .tc main_arg0) (ix1 l) := by
  after_reads_at

theorem host0_head (h : Fin 64) : StableHlo.after hostOps0 V (Proc.devRef .tc main_call0_v1) (ix2 0 h) = V (Proc.devRef .tc main_arg4) (ix1 h) := by
  after_reads_at

theorem host1_logits (j : Fin 10240) : StableHlo.after hostOps1 V (Proc.devRef .tc main_call0_v4) (ix2 0 j)
    = V (Proc.devRef .tc main_call0_v2_0) (ix2 (Arg.pos j) (Fin.castLE (by norm_num) (Arg.tok j))) := by
  after_reads_at
  rfl

theorem host1_head (h : Fin 64) : StableHlo.after hostOps1 V (Proc.devRef .tc main_call0_v5) (ix2 0 h) = V (Proc.devRef .tc main_arg4) (ix1 h) := by
  after_reads_at

theorem host1_tokens (l : Fin 512) : StableHlo.after hostOps1 V (Proc.devRef .tc main_call0_v6) (ix2 0 l) = V (Proc.devRef .tc main_arg0) (ix1 l) := by
  after_reads_at

theorem host1_draws (n : Fin 1024) : StableHlo.after hostOps1 V (Proc.devRef .tc main_call0_v7) (ix2 n 0) = V (Proc.devRef .tc main_arg2) (ix1 n) := by
  after_reads_at

theorem host2_accept (n : Fin 1024) : StableHlo.after hostOps2 V (Proc.devRef .tc main_v0_0) (ix1 n) = V (Proc.devRef .tc main_call0_v8_1) (ix2 n 0) := by
  after_reads_at

theorem host2_score (n : Fin 1024) : StableHlo.after hostOps2 V (Proc.devRef .tc main_v0_3) (ix1 n) = V (Proc.devRef .tc main_call0_v8_2) (ix2 n 0) := by
  after_reads_at

theorem host2_flag (n : Fin 1024) : StableHlo.after hostOps2 V (Proc.devRef .tc main_v0_1) (ix1 n)
    = FloatOps.cmpf (F := Ideal) (φ := .f32) .une (V (Proc.devRef .tc main_call0_v8_3) (ix2 n 0)) 0 := by
  after_reads_at
  simp only [id]
  pointwise
end

/-- An index of a column is its row. -/
theorem eq_col (y : S256x1.Idx) : y = ix2 (y 0) 0 :=
  (eq_ix2 y).trans (congrArg (ix2 (y 0)) (Fin.ext (by have h : (y 1).val < 1 := (y 1).isLt; show (y 1).val = 0; omega)))

/-- A flag stored as a number, compared with zero, is the flag. -/
theorem flag_ne (q : BitVec 1) : FloatOps.cmpf (F := Ideal) (φ := .f32) .une (FloatOps.sitofp .f32 (BitVec.setWidth 32 q)) 0 = q := by
  show Ideal.cmp .une (((BitVec.setWidth 32 q).toInt : ℝ) : EReal) 0 = q
  rcases BitVec.eq_zero_or_eq_one q with h | h <;> subst h <;> simp [Ideal.cmp]

/-- The perturbed logits of one chain. -/
def noisyRow (w : Fin 20 → Fin 64 → ℝ) (b : Fin 64 → ℝ) (x : Fin 512 → Fin 20) (U : Vec Ideal S1024x10240 .f32) (n : Fin 1024) (j : Fin 10240) : EReal :=
  (lg w b (Arg.tok j) (x (Arg.pos j)) : EReal) - Ideal.log (0 - Ideal.log (max (U (ix2 n j)) (Ideal.ofBits .f32 814313567#32)))

section
variable (m : (ℓ : Loc nD τ sig) → Buf (Elt Ideal) ℓ) (ρ : Dev nD → PrngReg) (c : Dev nD)
  {w : Fin 20 → Fin 64 → ℝ} {b : Fin 64 → ℝ} {x : Fin 512 → Fin 20} {k : Fin 1024 → Fin 10240}
  (hx : ∀ l : Fin 512, m ((c : Thread nD τ).loc main_arg0) (ix1 l) = BitVec.ofNat 32 (x l).val)
  (hw : ∀ (a : Fin 20) (h : Fin 64), m ((c : Thread nD τ).loc main_arg3) (ix2 a h) = (w a h : EReal))
  (hb : ∀ h : Fin 64, m ((c : Thread nD τ).loc main_arg4) (ix1 h) = (b h : EReal))
  (hk : ∀ n, Arg.IsFirst (noisyRow w b x (m ((c : Thread nD τ).loc main_arg1)) n) (k n))

include hx in
theorem tokens1 (l : Fin 512) : V1 m ρ c main_call0_v0 (ix2 l 0) = BitVec.ofNat 32 (x l).val := by
  rw [← hx l]; exact host0_tokens _ l

include hb in
theorem head1 (h : Fin 64) : V1 m ρ c main_call0_v1 (ix2 0 h) = (b h : EReal) := by
  rw [← hb h]; exact host0_head _ h

include hw in
theorem weights1 (a : Fin 20) (h : Fin 64) : V1 m ρ c main_arg3 (ix2 a h) = (w a h : EReal) := by
  rw [← hw a h]; exact congrFun (W1_args m ρ c main_arg3 (by decide)) _

include hx hw hb in
theorem table2 (l : Fin 512) (q : Fin 32) : W2 m ρ c (Proc.devRef .tc main_call0_v2_0) (ix2 l q)
    = (tableAt w b (x l) q : EReal) := by
  refine (congrFun ((W2_arr m ρ c 3).trans (arr0_3 (V1 m ρ) c)) _).trans ?_
  exact Tables.out3_apply (tokens1 m ρ c hx) (weights1 m ρ c hw) (head1 m ρ c hb) l q

include hx hw hb in
theorem table3 (l : Fin 512) (q : Fin 32) : V3 m ρ c main_call0_v2_0 (ix2 l q)
    = (tableAt w b (x l) q : EReal) := by
  rw [← table2 m ρ c hx hw hb l q]
  exact congrFun (W3_of m ρ c main_call0_v2_0 (by decide)) _

include hw in
theorem relu3 (a : Fin 20) (h : Fin 64) : V3 m ρ c main_call0_v2_1 (ix2 a h) = (relu w a h : EReal) := by
  refine (congrFun (((W3_of m ρ c main_call0_v2_1 (by decide)).trans (W2_arr m ρ c 4)).trans (arr0_4 (V1 m ρ) c)) _).trans ?_
  exact Tables.out4_apply (weights1 m ρ c hw) a h

include hx hw hb in
theorem smalls3 (q : Fin 128) : V3 m ρ c main_call0_v2_2 (ix2 0 q)
    = (smallAt w b x q : EReal) := by
  refine (congrFun (((W3_of m ρ c main_call0_v2_2 (by decide)).trans (W2_arr m ρ c 5)).trans (arr0_5 (V1 m ρ) c)) _).trans ?_
  exact Tables.out5_apply (tokens1 m ρ c hx) (weights1 m ρ c hw) (head1 m ρ c hb) q

include hx in
theorem tokens3 (l : Fin 512) : V3 m ρ c main_call0_v6 (ix2 0 l) = BitVec.ofNat 32 (x l).val := by
  rw [← hx l]; exact (host1_tokens _ l).trans (congrFun (W2_args m ρ c main_arg0 (by decide)) _)

include hb in
theorem head3 (h : Fin 64) : V3 m ρ c main_call0_v5 (ix2 0 h) = (b h : EReal) := by
  rw [← hb h]; exact (host1_head _ h).trans (congrFun (W2_args m ρ c main_arg4 (by decide)) _)

include hx hw hb in
theorem logits3 (j : Fin 10240) : V3 m ρ c main_call0_v4 (ix2 0 j) = (lg w b (Arg.tok j) (x (Arg.pos j)) : EReal) := by
  refine (host1_logits _ j).trans ((table2 m ρ c hx hw hb _ _).trans ?_)
  unfold tableAt
  rw [dif_pos (show (Fin.castLE (by norm_num : 20 ≤ 32) (Arg.tok j)).val < 20 from (Arg.tok j).isLt)]
  rfl

theorem draws3 : V3 m ρ c main_arg1 = m ((c : Thread nD τ).loc main_arg1) := W3_args m ρ c main_arg1 (by decide)

theorem mh3 (n : Fin 1024) : V3 m ρ c main_call0_v7 (ix2 n 0) = m ((c : Thread nD τ).loc main_arg2) (ix1 n) :=
  (host1_draws _ n).trans (congrFun (W2_args m ρ c main_arg2 (by decide)) _)

include hx hw hb hk in
theorem first3 (t : Fin cfg1.N) (i : Fin 256) :
    Arg.IsFirst (Sample.noisy (rows t (V3 m ρ c main_arg1)) (V3 m ρ c main_call0_v4) i) (k (chain t i)) := by
  have e : Sample.noisy (rows t (V3 m ρ c main_arg1)) (V3 m ρ c main_call0_v4) i
      = noisyRow w b x (m ((c : Thread nD τ).loc main_arg1)) (chain t i) := by
    funext j
    unfold Sample.noisy noisyRow rows
    rw [logits3 m ρ c hx hw hb j, draws3 m ρ c]
    rfl
  rw [e]
  exact hk _

include hx hw hb hk in
/-- The third result: each chain's sequence with its picked token at its picked position. -/
theorem mutants_eq : W5 m ρ c (Proc.devRef .tc main_v0_2)
    = fun z => BitVec.ofNat 32 (Function.update x (Arg.pos (k (z 0))) (Arg.tok (k (z 0))) (z 1)).val := by
  refine (W5_of m ρ c main_v0_2 (by decide)).trans ((W4_arr m ρ c 8).trans (arr1_8 (V3 m ρ) c _ fun t => funext fun y => ?_))
  rw [eq_ix2 y]
  exact Sample.out8_apply (first3 m ρ c hx hw hb hk t (y 0)) (tokens3 m ρ c hx) (y 1)

include hx hw hb hk in
/-- The first result: the acceptance ratios. -/
theorem accept_eq : W5 m ρ c (Proc.devRef .tc main_v0_0) = fun z => (ratio w b x (Arg.pos (k (z 0))) (Arg.tok (k (z 0))) : EReal) := by
  funext z
  rw [eq_ix1 z]
  refine (host2_accept _ _).trans (congrFun ((W4_arr m ρ c 9).trans (arr1_9 (V3 m ρ) c
    (fun y => (ratio w b x (Arg.pos (k (y 0))) (Arg.tok (k (y 0))) : EReal)) fun t => funext fun y => ?_)) _)
  rw [eq_col y]
  exact Sample.out9_apply (first3 m ρ c hx hw hb hk t (y 0)) (tokens3 m ρ c hx) (table3 m ρ c hx hw hb) (relu3 m ρ c hw)
    (smalls3 m ρ c hx hw hb) (head3 m ρ c hb)

include hx hw hb hk in
/-- The fourth result: the mutants' scores. -/
theorem score_eq : W5 m ρ c (Proc.devRef .tc main_v0_3)
    = fun z => (score w b (Function.update x (Arg.pos (k (z 0))) (Arg.tok (k (z 0)))) : EReal) := by
  funext z
  rw [eq_ix1 z]
  refine (host2_score _ _).trans (congrFun ((W4_arr m ρ c 10).trans (arr1_10 (V3 m ρ) c
    (fun y => (score w b (Function.update x (Arg.pos (k (y 0))) (Arg.tok (k (y 0)))) : EReal)) fun t => funext fun y => ?_)) _)
  rw [eq_col y]
  exact Sample.out10_apply (first3 m ρ c hx hw hb hk t (y 0)) (tokens3 m ρ c hx) (relu3 m ρ c hw) (smalls3 m ρ c hx hw hb) (head3 m ρ c hb)

include hx hw hb hk in
/-- The second result: whether each chain's ratio lies below its draw. -/
theorem flag_eq : W5 m ρ c (Proc.devRef .tc main_v0_1)
    = fun z => BitVec.ofBool (decide ((ratio w b x (Arg.pos (k (z 0))) (Arg.tok (k (z 0))) : EReal) < m ((c : Thread nD τ).loc main_arg2) z)) := by
  funext z
  rw [eq_ix1 z]
  refine (host2_flag _ _).trans ?_
  have e := congrFun ((W4_arr m ρ c 11).trans (arr1_11 (V3 m ρ) c
    (fun y => (FloatOps.sitofp .f32 (BitVec.setWidth 32 (BitVec.ofBool (decide ((ratio w b x (Arg.pos (k (y 0))) (Arg.tok (k (y 0))) : EReal)
      < m ((c : Thread nD τ).loc main_arg2) (ix1 (y 0)))))) : Ideal .f32)) fun t => funext fun y => by
        rw [eq_col y]
        refine (Sample.out11_apply (first3 m ρ c hx hw hb hk t (y 0)) (tokens3 m ρ c hx) (table3 m ρ c hx hw hb) (relu3 m ρ c hw)
          (smalls3 m ρ c hx hw hb) (head3 m ρ c hb)).trans ?_
        exact congrArg (fun v : EReal => (FloatOps.sitofp .f32 (BitVec.setWidth 32 (BitVec.ofBool (decide
          ((ratio w b x (Arg.pos (k (chain t (y 0)))) (Arg.tok (k (chain t (y 0)))) : EReal) < v)))) : Ideal .f32)) (mh3 m ρ c (chain t (y 0))))) (ix2 (z 0) 0)
  refine (congrArg (fun v => FloatOps.cmpf (F := Ideal) (φ := .f32) .une v 0) e).trans ?_
  exact flag_ne _

end

end Cert.KernelIdeal.Value

end
-- ==== Proof.RefRun.lean ====
/- The reference's run: every fair execution of its `main` ends with the four results at the stages of `RefStages.lean`
   composed, and with the arguments as they were. The line of host operations is cut into nine stretches, and each
   stretch's reads are stated once, over any contents before it. -/
module

public import proofs.«01_k».proof.Proof.RefStages
public import Idealize.ShloMosaic.Lib.StableHlo.RunHlo
public import Idealize.ShloMosaic.Lib.StableHlo.RunRead
public import Idealize.ShloMosaic.Lib.Claim

@[expose] public section

noncomputable section

namespace Cert.ReferenceIdeal.Line

open Cert.ReferenceIdeal Cert.ReferenceIdeal.Gen Idealize.ShloMosaic Idealize.ShloMosaic.StableHlo Idealize.ShloMosaic.TcCoe Idealize.SL.Sem
open Cert.ReferenceIdeal.Stage

/-- A list of host operations of the program. -/
abbrev Ops : Type := List (HloOp τ sig (Elt Ideal))
/-- What the device's buffers hold. -/
abbrev Vals : Type := Valuation τ sig (Elt Ideal)

set_option maxRecDepth 8192 in
/-- The operations of `main`'s first part. -/
@[no_expose] def part0 : { l : Ops // ∀ c, IsSeq (main_part0 (F := Ideal) c) l } := ⟨_, by unfold main_part0; hlo_seq⟩
set_option maxRecDepth 8192 in
/-- The operations of the second part. -/
@[no_expose] def part1 : { l : Ops // ∀ c, IsSeq (main_part1 (F := Ideal) c) l } := ⟨_, by unfold main_part1; hlo_seq⟩
set_option maxRecDepth 8192 in
/-- The operations of the third part. -/
@[no_expose] def part2 : { l : Ops // ∀ c, IsSeq (main_part2 (F := Ideal) c) l } := ⟨_, by unfold main_part2; hlo_seq⟩
set_option maxRecDepth 8192 in
/-- The operations of the fourth part. -/
@[no_expose] def part3 : { l : Ops // ∀ c, IsSeq (main_part3 (F := Ideal) c) l } := ⟨_, by unfold main_part3; hlo_seq⟩
set_option maxRecDepth 8192 in
/-- The operations of the last part. -/
@[no_expose] def part4 : { l : Ops // ∀ c, IsSeq (main_part4 (F := Ideal) c) l } := ⟨_, by unfold main_part4; hlo_seq⟩

/-- Two stretches run one after the other. -/
theorem after_app (l₁ l₂ : Ops) (V : Vals) : after (l₁ ++ l₂) V = after l₂ (after l₁ V) := by
  induction l₁ generalizing V with
  | nil => rfl
  | cons op l ih => simpa only [List.cons_append, after_cons] using ih _

/-- The arguments are as they were before the stretch `l`. -/
def Keeps (l : Ops) : Prop :=
  ∀ V : Vals, after l V (Proc.devRef .tc main_arg0) = V (Proc.devRef .tc main_arg0)
    ∧ after l V (Proc.devRef .tc main_arg1) = V (Proc.devRef .tc main_arg1)
    ∧ after l V (Proc.devRef .tc main_arg2) = V (Proc.devRef .tc main_arg2)
    ∧ after l V (Proc.devRef .tc main_arg3) = V (Proc.devRef .tc main_arg3)
    ∧ after l V (Proc.devRef .tc main_arg4) = V (Proc.devRef .tc main_arg4)

/-- The stretch up to the noise and the logits. -/
abbrev s1 : Ops := part0.1
/-- The stretch that picks the flat index. -/
abbrev s2 : Ops := part1.1.take 7
/-- The stretch that splits the flat index. -/
abbrev s3 : Ops := (part1.1.drop 7).take 40
/-- The stretch that writes the mutants. -/
abbrev s4 : Ops := (part1.1.drop 47).take 23
/-- The stretch of the scores. -/
abbrev s5 : Ops := part1.1.drop 70
/-- The stretch of the scores' difference and the mutants' gradient. -/
abbrev s6 : Ops := part2.1.take 43
/-- The stretch of the mutants' differences and the source's shifted logits. -/
abbrev s7 : Ops := part2.1.drop 43
/-- The stretch of the two softmaxes. -/
abbrev s8 : Ops := part3.1.take 26
/-- The last stretch, up to the acceptance. -/
abbrev s9 : Ops := part3.1.drop 26 ++ part4.1

set_option maxRecDepth 8192
set_option maxHeartbeats 4000000

section
variable (V : Vals)

/-- The first stretch leaves the one-hot rows, the local differences, the logit row and the noise. -/
theorem read1 :
    after s1 V (Proc.devRef .tc main_v0) = oneHot (V (Proc.devRef .tc main_arg0))
    ∧ after s1 V (Proc.devRef .tc main_v34) = delta1 (oneHot (V (Proc.devRef .tc main_arg0))) (V (Proc.devRef .tc main_arg3)) (V (Proc.devRef .tc main_arg4))
    ∧ after s1 V (Proc.devRef .tc main_v43) = logitRow (delta1 (oneHot (V (Proc.devRef .tc main_arg0))) (V (Proc.devRef .tc main_arg3)) (V (Proc.devRef .tc main_arg4)))
    ∧ after s1 V (Proc.devRef .tc main_v42) = noise (V (Proc.devRef .tc main_arg1)) := by
  refine ⟨?_, ?_, ?_, ?_⟩ <;> (simp only [s1, part0]; after_reads_simp; try rfl)

/-- The second stretch leaves the picked flat index. -/
theorem read2 :
    after s2 V (Proc.devRef .tc main_v46) = pick (V (Proc.devRef .tc main_v43)) (V (Proc.devRef .tc main_v42))
    ∧ after s2 V (Proc.devRef .tc main_v0) = V (Proc.devRef .tc main_v0)
    ∧ after s2 V (Proc.devRef .tc main_v34) = V (Proc.devRef .tc main_v34) := by
  refine ⟨?_, ?_, ?_⟩ <;> (simp only [s2, part1, List.take]; after_reads_simp; try rfl)

/-- The third stretch leaves the picked position and token. -/
theorem read3 :
    after s3 V (Proc.devRef .tc main_v47) = posOf (V (Proc.devRef .tc main_v46))
    ∧ after s3 V (Proc.devRef .tc main_v48) = tokOf (V (Proc.devRef .tc main_v46))
    ∧ after s3 V (Proc.devRef .tc main_v0) = V (Proc.devRef .tc main_v0)
    ∧ after s3 V (Proc.devRef .tc main_v34) = V (Proc.devRef .tc main_v34) := by
  refine ⟨?_, ?_, ?_, ?_⟩ <;> (simp only [s3, part1, List.take, List.drop]; after_reads_simp; try rfl)

/-- The fourth stretch leaves the mutants. -/
theorem read4 :
    after s4 V (Proc.devRef .tc main_v67) = mutants (V (Proc.devRef .tc main_arg0)) (V (Proc.devRef .tc main_v47)) (V (Proc.devRef .tc main_v48))
    ∧ after s4 V (Proc.devRef .tc main_v0) = V (Proc.devRef .tc main_v0)
    ∧ after s4 V (Proc.devRef .tc main_v34) = V (Proc.devRef .tc main_v34)
    ∧ after s4 V (Proc.devRef .tc main_v47) = V (Proc.devRef .tc main_v47)
    ∧ after s4 V (Proc.devRef .tc main_v48) = V (Proc.devRef .tc main_v48) := by
  refine ⟨?_, ?_, ?_, ?_, ?_⟩ <;> (simp only [s4, part1, List.take, List.drop]; after_reads_simp; try rfl)

/-- The fifth stretch leaves the mutants' one-hot rows and both scores. -/
theorem read5 :
    after s5 V (Proc.devRef .tc main_v68) = oneHotG (V (Proc.devRef .tc main_v67))
    ∧ after s5 V (Proc.devRef .tc main_v78) = scoreG (oneHotG (V (Proc.devRef .tc main_v67))) (V (Proc.devRef .tc main_arg3)) (V (Proc.devRef .tc main_arg4))
    ∧ after s5 V (Proc.devRef .tc main_v89) = score1 (V (Proc.devRef .tc main_v0)) (V (Proc.devRef .tc main_arg3)) (V (Proc.devRef .tc main_arg4))
    ∧ after s5 V (Proc.devRef .tc main_v34) = V (Proc.devRef .tc main_v34)
    ∧ after s5 V (Proc.devRef .tc main_v47) = V (Proc.devRef .tc main_v47)
    ∧ after s5 V (Proc.devRef .tc main_v48) = V (Proc.devRef .tc main_v48)
    ∧ after s5 V (Proc.devRef .tc main_v67) = V (Proc.devRef .tc main_v67) := by
  refine ⟨?_, ?_, ?_, ?_, ?_, ?_, ?_⟩ <;> (simp only [s5, part1, List.drop]; after_reads_simp; try rfl)

/-- The sixth stretch leaves the scores' difference and the mutants' gradient. -/
theorem read6 :
    after s6 V (Proc.devRef .tc main_v91) = rise (V (Proc.devRef .tc main_v78)) (V (Proc.devRef .tc main_v89))
    ∧ after s6 V (Proc.devRef .tc main_v120) = gradG (V (Proc.devRef .tc main_v68)) (V (Proc.devRef .tc main_arg3)) (V (Proc.devRef .tc main_arg4))
    ∧ after s6 V (Proc.devRef .tc main_v34) = V (Proc.devRef .tc main_v34)
    ∧ after s6 V (Proc.devRef .tc main_v47) = V (Proc.devRef .tc main_v47)
    ∧ after s6 V (Proc.devRef .tc main_v48) = V (Proc.devRef .tc main_v48)
    ∧ after s6 V (Proc.devRef .tc main_v67) = V (Proc.devRef .tc main_v67)
    ∧ after s6 V (Proc.devRef .tc main_v68) = V (Proc.devRef .tc main_v68)
    ∧ after s6 V (Proc.devRef .tc main_v78) = V (Proc.devRef .tc main_v78) := by
  refine ⟨?_, ?_, ?_, ?_, ?_, ?_, ?_, ?_⟩ <;> (simp only [s6, part2, List.take]; after_reads_simp; try rfl)

/-- The seventh stretch leaves the mutants' differences and the source's shifted logits. -/
theorem read7 :
    after s7 V (Proc.devRef .tc main_v125) = deltaG (V (Proc.devRef .tc main_v120)) (V (Proc.devRef .tc main_v68))
    ∧ after s7 V (Proc.devRef .tc main_v133) = shift1 (V (Proc.devRef .tc main_v34))
    ∧ after s7 V (Proc.devRef .tc main_v47) = V (Proc.devRef .tc main_v47)
    ∧ after s7 V (Proc.devRef .tc main_v48) = V (Proc.devRef .tc main_v48)
    ∧ after s7 V (Proc.devRef .tc main_v67) = V (Proc.devRef .tc main_v67)
    ∧ after s7 V (Proc.devRef .tc main_v78) = V (Proc.devRef .tc main_v78)
    ∧ after s7 V (Proc.devRef .tc main_v91) = V (Proc.devRef .tc main_v91) := by
  refine ⟨?_, ?_, ?_, ?_, ?_, ?_, ?_⟩ <;> (simp only [s7, part2, List.drop]; after_reads_simp; try rfl)

/-- The eighth stretch leaves both proposal distributions. -/
theorem read8 :
    after s8 V (Proc.devRef .tc main_v139) = soft1 (V (Proc.devRef .tc main_v133))
    ∧ after s8 V (Proc.devRef .tc main_v154) = softG (expG (logitsG (V (Proc.devRef .tc main_v125))))
    ∧ after s8 V (Proc.devRef .tc main_v47) = V (Proc.devRef .tc main_v47)
    ∧ after s8 V (Proc.devRef .tc main_v48) = V (Proc.devRef .tc main_v48)
    ∧ after s8 V (Proc.devRef .tc main_v67) = V (Proc.devRef .tc main_v67)
    ∧ after s8 V (Proc.devRef .tc main_v78) = V (Proc.devRef .tc main_v78)
    ∧ after s8 V (Proc.devRef .tc main_v91) = V (Proc.devRef .tc main_v91) := by
  refine ⟨?_, ?_, ?_, ?_, ?_, ?_, ?_⟩ <;> (simp only [s8, part3, List.take]; after_reads_simp; try rfl)

/-- The last stretch leaves the acceptance ratios and the step flags. -/
theorem read9 :
    after s9 V (Proc.devRef .tc main_v192) = accept (V (Proc.devRef .tc main_v91)) (V (Proc.devRef .tc main_v154)) (V (Proc.devRef .tc main_v139)) (V (Proc.devRef .tc main_v47)) (V (Proc.devRef .tc main_v48))
    ∧ after s9 V (Proc.devRef .tc main_v193) = cmpf .olt (accept (V (Proc.devRef .tc main_v91)) (V (Proc.devRef .tc main_v154)) (V (Proc.devRef .tc main_v139)) (V (Proc.devRef .tc main_v47)) (V (Proc.devRef .tc main_v48))) (V (Proc.devRef .tc main_arg2))
    ∧ after s9 V (Proc.devRef .tc main_v67) = V (Proc.devRef .tc main_v67)
    ∧ after s9 V (Proc.devRef .tc main_v78) = V (Proc.devRef .tc main_v78) := by
  refine ⟨?_, ?_, ?_, ?_⟩ <;> (simp only [s9, part3, part4, List.drop, List.cons_append, List.nil_append]; after_reads_simp; try rfl)

end

/-- The stretch writes no argument. -/
theorem keeps1 : Keeps s1 := by
  intro V
  refine ⟨?_, ?_, ?_, ?_, ?_⟩ <;> (simp only [s1, part0]; after_reads_simp)

/-- The stretch writes no argument. -/
theorem keeps2 : Keeps s2 := by
  intro V
  refine ⟨?_, ?_, ?_, ?_, ?_⟩ <;> (simp only [s2, part1, List.take]; after_reads_simp)

/-- The stretch writes no argument. -/
theorem keeps3 : Keeps s3 := by
  intro V
  refine ⟨?_, ?_, ?_, ?_, ?_⟩ <;> (simp only [s3, part1, List.take, List.drop]; after_reads_simp)

/-- The stretch writes no argument. -/
theorem keeps4 : Keeps s4 := by
  intro V
  refine ⟨?_, ?_, ?_, ?_, ?_⟩ <;> (simp only [s4, part1, List.take, List.drop]; after_reads_simp)

/-- The stretch writes no argument. -/
theorem keeps5 : Keeps s5 := by
  intro V
  refine ⟨?_, ?_, ?_, ?_, ?_⟩ <;> (simp only [s5, part1, List.drop]; after_reads_simp)

/-- The stretch writes no argument. -/
theorem keeps6 : Keeps s6 := by
  intro V
  refine ⟨?_, ?_, ?_, ?_, ?_⟩ <;> (simp only [s6, part2, List.take]; after_reads_simp)

/-- The stretch writes no argument. -/
theorem keeps7 : Keeps s7 := by
  intro V
  refine ⟨?_, ?_, ?_, ?_, ?_⟩ <;> (simp only [s7, part2, List.drop]; after_reads_simp)

/-- The stretch writes no argument. -/
theorem keeps8 : Keeps s8 := by
  intro V
  refine ⟨?_, ?_, ?_, ?_, ?_⟩ <;> (simp only [s8, part3, List.take]; after_reads_simp)

/-- The stretch writes no argument. -/
theorem keeps9 : Keeps s9 := by
  intro V
  refine ⟨?_, ?_, ?_, ?_, ?_⟩ <;> (simp only [s9, part3, part4, List.drop, List.cons_append, List.nil_append]; after_reads_simp)

/-- The whole line of operations. -/
@[no_expose] def line : Ops := s1 ++ (s2 ++ (s3 ++ (s4 ++ (s5 ++ (s6 ++ (s7 ++ (s8 ++ s9)))))))

/-- The stretches of the second part make it up. -/
theorem part1_eq : part1.1 = s2 ++ (s3 ++ (s4 ++ s5)) := by
  simp only [s2, s3, s4, s5, part1]; rfl

/-- The program is the whole line run. -/
theorem main_isSeq (c : Dev nD) : IsSeq (main (F := Ideal) c) line := by
  have h : line = part0.1 ++ (part1.1 ++ (part2.1 ++ (part3.1 ++ part4.1))) := by
    rw [part1_eq, ← List.take_append_drop 43 part2.1, ← List.take_append_drop 26 part3.1]
    simp only [line, s1, s6, s7, s8, s9, List.append_assoc]
  unfold IsSeq
  rw [h, seq_append, seq_append, seq_append, seq_append, ← part0.2 c, ← part1.2 c, ← part2.2 c, ← part3.2 c, ← part4.2 c]
  rfl

/-- Stretches that keep the arguments keep them one after the other. -/
theorem Keeps.app {l₁ l₂ : Ops} (h₁ : Keeps l₁) (h₂ : Keeps l₂) : Keeps (l₁ ++ l₂) := by
  intro V
  obtain ⟨a0, a1, a2, a3, a4⟩ := h₁ V
  obtain ⟨b0, b1, b2, b3, b4⟩ := h₂ (after l₁ V)
  rw [after_app]
  exact ⟨b0.trans a0, b1.trans a1, b2.trans a2, b3.trans a3, b4.trans a4⟩

/-- The line writes no argument. -/
theorem keeps : Keeps line :=
  keeps1.app (keeps2.app (keeps3.app (keeps4.app (keeps5.app (keeps6.app (keeps7.app (keeps8.app keeps9)))))))

/-- What the line leaves at the results. -/
theorem results (V : Vals) :
    after line V (Proc.devRef .tc main_v192) = resAccept (V (Proc.devRef .tc main_arg0)) (V (Proc.devRef .tc main_arg1)) (V (Proc.devRef .tc main_arg3)) (V (Proc.devRef .tc main_arg4))
    ∧ after line V (Proc.devRef .tc main_v193) = cmpf .olt (resAccept (V (Proc.devRef .tc main_arg0)) (V (Proc.devRef .tc main_arg1)) (V (Proc.devRef .tc main_arg3)) (V (Proc.devRef .tc main_arg4))) (V (Proc.devRef .tc main_arg2))
    ∧ after line V (Proc.devRef .tc main_v67) = resMutants (V (Proc.devRef .tc main_arg0)) (V (Proc.devRef .tc main_arg1)) (V (Proc.devRef .tc main_arg3)) (V (Proc.devRef .tc main_arg4))
    ∧ after line V (Proc.devRef .tc main_v78) = resScore (V (Proc.devRef .tc main_arg0)) (V (Proc.devRef .tc main_arg1)) (V (Proc.devRef .tc main_arg3)) (V (Proc.devRef .tc main_arg4)) := by
  have e : after line V = after s9 (after s8 (after s7 (after s6 (after s5 (after s4 (after s3 (after s2 (after s1 V)))))))) := by
    unfold line
    rw [after_app, after_app, after_app, after_app, after_app, after_app, after_app, after_app]
  rw [e]
  clear e
  obtain ⟨r1a, r1b, r1c, r1d⟩ := read1 V
  obtain ⟨k1a, k1b, k1c, k1d, k1e⟩ := keeps1 V
  generalize after s1 V = V1 at *
  obtain ⟨r2a, r2b, r2c⟩ := read2 V1
  obtain ⟨k2a, k2b, k2c, k2d, k2e⟩ := keeps2 V1
  generalize after s2 V1 = V2 at *
  obtain ⟨r3a, r3b, r3c, r3d⟩ := read3 V2
  obtain ⟨k3a, k3b, k3c, k3d, k3e⟩ := keeps3 V2
  generalize after s3 V2 = V3 at *
  obtain ⟨r4a, r4b, r4c, r4d, r4e⟩ := read4 V3
  obtain ⟨k4a, k4b, k4c, k4d, k4e⟩ := keeps4 V3
  generalize after s4 V3 = V4 at *
  obtain ⟨r5a, r5b, r5c, r5d, r5e, r5f, r5g⟩ := read5 V4
  obtain ⟨k5a, k5b, k5c, k5d, k5e⟩ := keeps5 V4
  generalize after s5 V4 = V5 at *
  obtain ⟨r6a, r6b, r6c, r6d, r6e, r6f, r6g, r6h⟩ := read6 V5
  obtain ⟨k6a, k6b, k6c, k6d, k6e⟩ := keeps6 V5
  generalize after s6 V5 = V6 at *
  obtain ⟨r7a, r7b, r7c, r7d, r7e, r7f, r7g⟩ := read7 V6
  obtain ⟨k7a, k7b, k7c, k7d, k7e⟩ := keeps7 V6
  generalize after s7 V6 = V7 at *
  obtain ⟨r8a, r8b, r8c, r8d, r8e, r8f, r8g⟩ := read8 V7
  obtain ⟨k8a, k8b, k8c, k8d, k8e⟩ := keeps8 V7
  generalize after s8 V7 = V8 at *
  obtain ⟨r9a, r9b, r9c, r9d⟩ := read9 V8
  have ha : after s9 V8 (Proc.devRef .tc main_v192) = resAccept (V (Proc.devRef .tc main_arg0)) (V (Proc.devRef .tc main_arg1)) (V (Proc.devRef .tc main_arg3)) (V (Proc.devRef .tc main_arg4)) := by
    simp only [*, resAccept, resMutants, picked]
  refine ⟨ha, ?_, ?_, ?_⟩
  · rw [r9b, ← r9a, ha]; simp only [*]
  · rw [r9c]; simp only [*, resMutants, picked]
  · rw [r9d]; simp only [*, resScore, resMutants, picked]

/-- The reference's run: its results are the stages composed, and its arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v192) = resAccept (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v193) = cmpf .olt (resAccept (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2))
      ∧ r.2.mem ((c.tc : Thread nD τ).loc main_v67) = resMutants (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v78) = resScore (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine θ_run_mono (run_hlo (defs (F := Ideal)) (main (F := Ideal)) main_isSeq (by decide) (by decide) ?_ ?_ m ρ) ?_
  · simp only [line, s1, s2, s3, s4, s5, s6, s7, s8, s9, part0, part1, part2, part3, part4, List.take, List.drop, List.cons_append, List.nil_append]
    simp
  · simp only [line, s1, s2, s3, s4, s5, s6, s7, s8, s9, part0, part1, part2, part3, part4, List.take, List.drop, List.cons_append, List.nil_append]
    intro _ h; (repeat (cases h with | head => rfl | tail _ h => ?_)); exact nomatch h
  · intro r h c
    obtain ⟨a, b, d, e⟩ := results (launchContents m c)
    obtain ⟨k0, k1, k2, k3, k4⟩ := keeps (launchContents m c)
    exact ⟨(h c _).trans a, (h c _).trans b, (h c _).trans d, (h c _).trans e,
      (h c _).trans k0, (h c _).trans k1, (h c _).trans k2, (h c _).trans k3, (h c _).trans k4⟩

/-- The program has no semaphore, so every counter reads zero at the end. -/
theorem quiet (s : MemSt nD τ sig (Elt Ideal)) : s.sem = fun _ => 0 := by
  funext g
  obtain ⟨c, g⟩ := g
  cases g with
  | reg i => exact i.elim0
  | dma i => exact i.elim0

end Cert.ReferenceIdeal.Line

end
-- ==== Proof.RefRead.lean ====
/- The reference's stages at an index, over real weights and tokens in range. -/
module

public import proofs.«01_k».proof.Proof.RefStages
public import proofs.«01_k».proof.Proof.Coe
public import proofs.«01_k».proof.Proof.Arg
public import Idealize.ShloMosaic.Lib.Pointwise

@[expose] public section

set_option maxRecDepth 16384

noncomputable section

namespace Cert.ReferenceIdeal.Stage

open Idealize.ShloMosaic
open Cert.ReferenceIdeal Cert.ReferenceIdeal.Gen Cert.Spec

/-- The number a one-hot row holds: the equality of two index words, converted. -/
theorem hot {n : Nat} (hn : n ≤ 2 ^ 32) (i j : Fin n) :
    (FloatOps.uitofp .f32 (IntOp.cmpi .eq (BitVec.ofNat 32 i.val) (BitVec.ofNat 32 j.val)) : Ideal .f32)
      = ((if i = j then 1 else 0 : ℝ) : EReal) := by
  show (((IntOp.cmpi .eq (BitVec.ofNat 32 i.val) (BitVec.ofNat 32 j.val)).toNat : ℝ) : EReal) = _
  by_cases h : i = j
  · subst h; simp [IntOp.cmpi]
  · have h0 : IntOp.cmpi .eq (BitVec.ofNat 32 i.val) (BitVec.ofNat 32 j.val) = 0#1 := by
      rw [WordCmp.cmpi_eq_ofNat_eq_zero_iff (lt_of_lt_of_le i.isLt hn) (lt_of_lt_of_le j.isLt hn)]
      exact fun e => h (Fin.ext e)
    rw [h0, if_neg h]; simp

/-- The literal one half. -/
theorem ofBits_half : Ideal.ofBits .f32 1056964608#32 = ((1 / 2 : ℝ) : EReal) := by
  simp [Ideal.ofBits, Ideal.ieee, -EReal.coe_mul]; norm_num

/-- A factor of the gradient of the rectifier at a weight that isn't zero, times the head's weight over the length. -/
theorem slope_factor {w : Fin 20 → Fin 64 → ℝ} {b : Fin 64 → ℝ} {t : Fin 20} {h : Fin 64} (h0 : w t h ≠ 0) :
    Ideal.div (b h : EReal) ((512 : ℝ) : EReal) * (if (0 : EReal) < (w t h : EReal) then (1 : EReal)
      else if (w t h : EReal) = 0 then ((1 / 2 : ℝ) : EReal) else 0) = (Spec.slope w b t h : EReal) := by
  have h0' : ¬ (w t h : EReal) = 0 := by rw [← EReal.coe_zero, EReal.coe_eq_coe_iff]; exact h0
  rw [if_neg h0', Coe.div (by norm_num)]
  unfold Spec.slope
  by_cases hp : 0 < w t h
  · rw [if_pos (EReal.coe_pos.2 hp), if_pos hp, mul_one, div_eq_mul_one_div]
  · rw [if_neg (fun e => hp (EReal.coe_pos.1 e)), if_neg hp, mul_zero]; rfl

theorem sum_pick (f : Fin 20 → ℝ) (t : Fin 20) : ∑ a, f a * (if a = t then 1 else 0 : ℝ) = f t := by simp

theorem sum_pick' (f : Fin 20 → ℝ) (t : Fin 20) : ∑ a, (if a = t then 1 else 0 : ℝ) * f a = f t := by simp

section
variable {w : Fin 20 → Fin 64 → ℝ} {b : Fin 64 → ℝ} {x : Fin 512 → Fin 20} {y : Fin 1024 → Fin 512 → Fin 20}
  {X : I S512} {Y : I S1024x512} {W : R S20x64} {B : R S64}
  (hX : ∀ l, X (ix1 l) = BitVec.ofNat 32 (x l).val) (hY : ∀ n l, Y (ix2 n l) = BitVec.ofNat 32 (y n l).val)
  (hW : ∀ a h, W (ix2 a h) = (w a h : EReal)) (h0 : ∀ a h, w a h ≠ 0) (hB : ∀ h, B (ix1 h) = (b h : EReal))

include hX in
theorem oneHot_apply (l : Fin 512) (a : Fin 20) : oneHot X (ix2 l a) = ((if a = x l then 1 else 0 : ℝ) : EReal) := by
  pointwise [oneHot]
  rw [hX]
  refine (hot (n := 20) (by norm_num) (x l) a).trans ?_
  simp only [eq_comm]

include hX hW in
theorem hid1_apply (l : Fin 512) (h : Fin 64) : hid1 (oneHot X) W (ix3 0 l h) = (w (x l) h : EReal) := by
  pointwise [hid1, oneHot1, dot_S1x512x20_S20x64_S1x512x64_2_0_01_1_n_n]
  simp only [oneHot_apply hX, hW, Coe.mul, Coe.sum, sum_pick' (fun a => w a h)]

include hX hW h0 hB in
theorem grad1_apply (l : Fin 512) (a : Fin 20) : grad1 (oneHot X) W B (ix3 0 l a) = (dt w b a (x l) : EReal) := by
  pointwise [grad1, dot_S1x512x64_S20x64_S1x512x20_2_1_01_0_n_n]
  simp only [hid1_apply hX hW, hB, Coe.ofBits_len, ofBits_half, slope_factor (h0 _ _), hW, Coe.mul, Coe.sum]
  unfold dt
  simp only [mul_comm]

include hX hW h0 hB in
theorem delta1_apply (l : Fin 512) (a : Fin 20) : delta1 (oneHot X) W B (ix2 l a) = ((dt w b a (x l) - dt w b (x l) (x l) : ℝ) : EReal) := by
  pointwise [delta1, oneHot1]
  simp only [grad1_apply hX hW h0 hB, oneHot_apply hX, Coe.mul, Coe.sum, sum_pick (fun a => dt w b a (x l)), Coe.sub]

include hX hW h0 hB in
theorem logits_apply (j : Fin 10240) : logits (delta1 (oneHot X) W B) (ix1 j) = (lg w b (Arg.tok j) (x (Arg.pos j)) : EReal) := by
  have hd := delta1_apply hX hW h0 hB (Arg.pos j) (Arg.tok j)
  pointwise [logits]
  rw [Coe.ofBits_T]
  refine (congrArg (fun v => Ideal.div v _) hd).trans ?_
  rw [Coe.div T_pos.ne']; rfl

include hY in
theorem oneHotG_apply (n : Fin 1024) (l : Fin 512) (a : Fin 20) : oneHotG Y (ix3 n l a) = ((if a = y n l then 1 else 0 : ℝ) : EReal) := by
  pointwise [oneHotG]
  rw [hY]
  refine (hot (n := 20) (by norm_num) (y n l) a).trans ?_
  simp only [eq_comm]

include hY hW in
theorem hidG_apply (n : Fin 1024) (l : Fin 512) (h : Fin 64) : hidG (oneHotG Y) W (ix3 n l h) = (w (y n l) h : EReal) := by
  pointwise [hidG, dot_S1024x512x20_S20x64_S1024x512x64_2_0_01_1_n_n]
  simp only [oneHotG_apply hY, hW, Coe.mul, Coe.sum, sum_pick' (fun a => w a h)]

include hY hW h0 hB in
theorem gradG_apply (n : Fin 1024) (l : Fin 512) (a : Fin 20) : gradG (oneHotG Y) W B (ix3 n l a) = (dt w b a (y n l) : EReal) := by
  pointwise [gradG, dot_S1024x512x64_S20x64_S1024x512x20_2_1_01_0_n_n]
  simp only [hidG_apply hY hW, hB, Coe.ofBits_len, ofBits_half, slope_factor (h0 _ _), hW, Coe.mul, Coe.sum]
  unfold dt
  simp only [mul_comm]

include hY hW h0 hB in
theorem deltaG_apply (n : Fin 1024) (l : Fin 512) (a : Fin 20) : deltaG (gradG (oneHotG Y) W B) (oneHotG Y) (ix3 n l a)
    = ((dt w b a (y n l) - dt w b (y n l) (y n l) : ℝ) : EReal) := by
  pointwise [deltaG]
  simp only [gradG_apply hY hW h0 hB, oneHotG_apply hY, Coe.mul, Coe.sum, sum_pick (fun a => dt w b a (y n l)), Coe.sub]

include hY hW hB in
theorem scoreG_apply (n : Fin 1024) : scoreG (oneHotG Y) W B (ix1 n) = (score w b (y n) : EReal) := by
  pointwise [scoreG]
  simp only [hidG_apply hY hW, hB, Coe.sup_zero, Coe.sum, Coe.ofBits_len, Coe.div (show (512 : ℝ) ≠ 0 by norm_num), Coe.mul]
  unfold Spec.score Spec.pool Spec.relu
  simp only [mul_one_div]

include hX hW hB in
theorem score1_apply : score1 (oneHot X) W B ix0 = (score w b x : EReal) := by
  pointwise [score1]
  simp only [hid1_apply hX hW, hB, Coe.sup_zero, Coe.sum, Coe.ofBits_len, Coe.div (show (512 : ℝ) ≠ 0 by norm_num), Coe.mul]
  unfold Spec.score Spec.pool Spec.relu
  simp only [mul_one_div]

end

/-- The mutants' logits at an index. -/
theorem logitsG_at (d : R S1024x512x20) (n : Fin 1024) (j : Fin 10240) :
    logitsG d (ix2 n j) = Ideal.div (d (ix3 n (Arg.pos j) (Arg.tok j))) (Ideal.ofBits .f32 1036831949#32) := by
  unfold logitsG
  show Ideal.div (shapeCast _ d shapeCasts_S1024x512x20_S1024x10240 (ix2 n j)) _ = _
  rw [shapeCast_apply d shapeCasts_S1024x512x20_S1024x10240 (ix2 n j) (ix3 n (Arg.pos j) (Arg.tok j))]
  · rfl
  · rw [Shape.rowMajor_val_two, Shape.rowMajor_val_three]
    show (n.val * 512 + j.val / 20) * 20 + j.val % 20 = n.val * 10240 + j.val
    omega

theorem noise_apply (u : R S1024x10240) (n : Fin 1024) (j : Fin 10240) :
    noise u (ix2 n j) = -Ideal.log (-Ideal.log (min 1 (max (Ideal.ofBits .f32 814313567#32) (u (ix2 n j))))) := by
  pointwise [noise]
  simp only [id]
  pointwise

theorem posOf_apply {k : I S1024} {n : Fin 1024} {i : Fin 10240} (hk : k (ix1 n) = BitVec.ofNat 32 i.val) :
    posOf k (ix1 n) = BitVec.ofNat 32 (Arg.pos i).val := by
  have e : twenty ix0 = 20#32 := rfl
  pointwise [posOf]
  rw [hk, e, Arg.remsi_twenty, Arg.divsi_twenty]
  rw [Scalar.select, if_neg]
  intro h
  obtain ⟨h1, h2⟩ := IntOp.andi_eq_one.1 h
  have hp := Arg.no_fix i (IntOp.cmpi_ne.1 h2)
  have hi := i.isLt
  have hn : (BitVec.ofNat 32 i.val).toNat = i.val := by rw [BitVec.toNat_ofNat]; omega
  have hm : ¬ (BitVec.ofNat 32 i.val).msb = true := by
    rw [BitVec.msb_eq_false_iff_two_mul_lt.mpr (by omega)]; decide
  have hz : ¬ BitVec.ofNat 32 i.val = 0 := by
    intro e0; rw [e0] at hp; revert hp; decide
  refine IntOp.cmpi_ne.1 h1 ?_
  rw [if_neg hz, if_neg hm]
  decide

theorem tokOf_apply {k : I S1024} {n : Fin 1024} {i : Fin 10240} (hk : k (ix1 n) = BitVec.ofNat 32 i.val) :
    tokOf k (ix1 n) = BitVec.ofNat 32 (Arg.tok i).val := by
  have e : twenty ix0 = 20#32 := rfl
  pointwise [tokOf, remOf, guarded]
  rw [hk, e, show Scalar.select (IntOp.cmpi .eq (20#32 : BitVec 32) 0#32) (1#32 : BitVec 32) 20#32 = 20#32 from by decide, Arg.remsi_twenty]
  rw [Scalar.select, if_neg]
  intro h
  obtain ⟨h1, h2⟩ := IntOp.andi_eq_one.1 h
  refine IntOp.cmpi_ne.1 h1 ?_
  have ht := (Arg.tok i).isLt
  have hs : IntOp.cmpi .slt (BitVec.ofNat 32 (Arg.tok i).val) 0#32 = 0#1 := by
    rcases BitVec.eq_zero_or_eq_one (IntOp.cmpi .slt (BitVec.ofNat 32 (Arg.tok i).val) 0#32) with e | e
    · exact e
    · have h3 := IntOp.cmpi_slt.1 e
      rw [WordCmp.toInt_ofNat_of_lt (by omega)] at h3
      have : (0#32 : BitVec 32).toInt = 0 := by decide
      omega
  rw [hs]; decide

/-- An index column of indices in range: the sign test changes nothing. -/
theorem col_apply {k : I S1024} {n : Fin 1024} {i : ℕ} (hi : i < 2 ^ 31) (hk : k (ix1 n) = BitVec.ofNat 32 i) (a : BitVec 32) :
    col k a (ix2 n 0) = BitVec.ofNat 32 i := by
  pointwise [col]
  rw [hk, Scalar.select, if_neg]
  intro h
  have h3 := IntOp.cmpi_slt.1 h
  rw [WordCmp.toInt_ofNat_of_lt (by omega)] at h3
  have : (0#32 : BitVec 32).toInt = 0 := by decide
  omega

end Cert.ReferenceIdeal.Stage

end
-- ==== Proof.RefIndex.lean ====
/- The reference's stages that index: the scatter that makes the mutants, and the gathers of the two proposal probabilities. -/
module

public import proofs.«01_k».proof.Proof.RefRead

@[expose] public section

set_option maxRecDepth 16384

noncomputable section

namespace Cert.ReferenceIdeal.Stage

open Idealize.ShloMosaic
open Cert.ReferenceIdeal Cert.ReferenceIdeal.Gen Cert.Spec

/-- A slice's start on an axis, where the start index read there is in range. -/
theorem start_eq {s si t : Shape} (d : GatherDims s si t) (j : t.Idx) (c : IVec si 32) (e : Fin s.rank) (he : e ∈ d.startIndexMap)
    (i : si.Idx) (hi : d.siIdx j ⟨d.startIndexMap.idxOf e, List.idxOf_lt_length_iff.2 he⟩ = i) (v : ℕ) (hv : c i = BitVec.ofNat 32 v)
    (hv' : v < 2 ^ 31) (hle : v ≤ s.size e - d.sliceSizes e) : d.start j c e = v := by
  unfold GatherDims.start
  rw [dif_pos he, hi, hv, WordCmp.toInt_ofNat_of_lt hv', Int.toNat_natCast, min_eq_left hle]

/-- The coordinate a gather of single elements reads on an axis. -/
theorem operand_eq {s si t : Shape} (d : GatherDims s si t) (j : t.Idx) (c : IVec si 32) (e : Fin s.rank) (he : e ∈ d.startIndexMap)
    (hb : e ∉ d.operandBatchingDims) (hk : e ∈ d.collapsedSliceDims)
    (i : si.Idx) (hi : d.siIdx j ⟨d.startIndexMap.idxOf e, List.idxOf_lt_length_iff.2 he⟩ = i) (v : ℕ) (hv : c i = BitVec.ofNat 32 v)
    (hv' : v < 2 ^ 31) (hle : v ≤ s.size e - d.sliceSizes e) : (d.operandIdx j c e).val = v := by
  show d.start j c e + d.batchCoord j e + d.offCoord j e = v
  rw [GatherDims.batchCoord_eq_zero _ _ _ hb, GatherDims.offCoord_eq_zero _ _ _ (fun h => ((GatherDims.mem_sKept _ _).mp h).1 hk),
    start_eq d j c e he i hi v hv hv' hle]
  rfl

/-- A gather of single elements of a matrix, at indices in range. -/
theorem gather2_apply (q : R S512x20) (c : I S1024x2) (n : Fin 1024) (p : Fin 512) (a : Fin 20)
    (hp : c (ix2 n 0) = BitVec.ofNat 32 p.val) (ha : c (ix2 n 1) = BitVec.ofNat 32 a.val) :
    Host.gather gather_S512x20_S1024x2_S1024_n_01_n_n_01_1_11 q c (ix1 n) = q (ix2 p a) := by
  unfold Host.gather
  refine congrArg q ?_
  funext e
  refine Fin.ext ?_
  match e with
  | ⟨0, _⟩ =>
    exact operand_eq gather_S512x20_S1024x2_S1024_n_01_n_n_01_1_11 (ix1 n) c 0 (by decide) (by decide) (by decide) (ix2 n 0)
      (by funext b; exact Fin.ext (match b with | ⟨0, _⟩ => rfl | ⟨1, _⟩ => rfl)) p.val hp (by omega) (by show p.val ≤ 512 - 1; omega)
  | ⟨1, _⟩ =>
    exact operand_eq gather_S512x20_S1024x2_S1024_n_01_n_n_01_1_11 (ix1 n) c 1 (by decide) (by decide) (by decide) (ix2 n 1)
      (by funext b; exact Fin.ext (match b with | ⟨0, _⟩ => rfl | ⟨1, _⟩ => rfl)) a.val ha (by omega) (by show a.val ≤ 20 - 1; omega)

/-- A gather of single elements of a batch of matrices, at indices in range. -/
theorem gather3_apply (q : R S1024x512x20) (c : I S1024x3) (n : Fin 1024) (p : Fin 512) (a : Fin 20)
    (hn : c (ix2 n 0) = BitVec.ofNat 32 n.val) (hp : c (ix2 n 1) = BitVec.ofNat 32 p.val) (ha : c (ix2 n 2) = BitVec.ofNat 32 a.val) :
    Host.gather gather_S1024x512x20_S1024x3_S1024_n_012_n_n_012_1_111 q c (ix1 n) = q (ix3 n p a) := by
  unfold Host.gather
  refine congrArg q ?_
  funext e
  refine Fin.ext ?_
  match e with
  | ⟨0, _⟩ =>
    exact operand_eq gather_S1024x512x20_S1024x3_S1024_n_012_n_n_012_1_111 (ix1 n) c 0 (by decide) (by decide) (by decide) (ix2 n 0)
      (by funext b; exact Fin.ext (match b with | ⟨0, _⟩ => rfl | ⟨1, _⟩ => rfl)) n.val hn (by omega) (by show n.val ≤ 1024 - 1; omega)
  | ⟨1, _⟩ =>
    exact operand_eq gather_S1024x512x20_S1024x3_S1024_n_012_n_n_012_1_111 (ix1 n) c 1 (by decide) (by decide) (by decide) (ix2 n 1)
      (by funext b; exact Fin.ext (match b with | ⟨0, _⟩ => rfl | ⟨1, _⟩ => rfl)) p.val hp (by omega) (by show p.val ≤ 512 - 1; omega)
  | ⟨2, _⟩ =>
    exact operand_eq gather_S1024x512x20_S1024x3_S1024_n_012_n_n_012_1_111 (ix1 n) c 2 (by decide) (by decide) (by decide) (ix2 n 2)
      (by funext b; exact Fin.ext (match b with | ⟨0, _⟩ => rfl | ⟨1, _⟩ => rfl)) a.val ha (by omega) (by show a.val ≤ 20 - 1; omega)

/-- Writes at places that tell their sources apart: what the last of them leaves. -/
theorem foldl_writes {ι κ α : Type} [DecidableEq κ] (g : ι → κ) (hg : Function.Injective g) (v : ι → α) (l : List ι) (r : κ → α) (i : ι) :
    (i ∈ l → l.foldl (fun r n => fun z => if z = g n then v n else r z) r (g i) = v i)
      ∧ ∀ z, (∀ n, z ≠ g n) → l.foldl (fun r n => fun z => if z = g n then v n else r z) r z = r z := by
  have keep : ∀ (l : List ι) (r : κ → α), r (g i) = v i → l.foldl (fun r n => fun z => if z = g n then v n else r z) r (g i) = v i := by
    intro l
    induction l with
    | nil => intro r h; exact h
    | cons n l ih =>
      intro r h
      rw [List.foldl_cons]
      refine ih _ ?_
      by_cases e : g i = g n
      · rw [if_pos e, hg e]
      · rw [if_neg e]; exact h
  induction l generalizing r with
  | nil => exact ⟨fun h => absurd h List.not_mem_nil, fun z _ => rfl⟩
  | cons n l ih =>
    refine ⟨fun h => ?_, fun z hz => ?_⟩
    · rw [List.foldl_cons]
      rcases List.mem_cons.1 h with e | e
      · subst e; exact keep l _ (if_pos rfl)
      · exact (ih _).1 e
    · rw [List.foldl_cons, (ih _).2 z hz, if_neg (hz n)]

/-- Where the scatter writes an update. -/
theorem result_eq (c : I S1024x2) (p : Fin 1024 → Fin 512) (h0 : ∀ n : Fin 1024, c (ix2 n 0) = BitVec.ofNat 32 n.val)
    (h1 : ∀ n, c (ix2 n 1) = BitVec.ofNat 32 (p n).val) (n : Fin 1024) :
    scatter_S1024x512_S1024x2_S1024_n_01_01_1.resultIdx? (ix1 n) c = some (ix2 n (p n)) := by
  have hw : ∀ e, scatter_S1024x512_S1024x2_S1024_n_01_01_1.window (ix1 n) e = 0 := by
    intro e
    unfold ScatterDims.window
    rw [dif_neg]
    revert e; decide
  have s0 : scatter_S1024x512_S1024x2_S1024_n_01_01_1.start (ix1 n) c 0 = (n.val : ℤ) := by
    unfold ScatterDims.start
    rw [dif_pos (by decide)]
    have e : scatter_S1024x512_S1024x2_S1024_n_01_01_1.siIdx (ix1 n) ⟨scatter_S1024x512_S1024x2_S1024_n_01_01_1.scatterDimsToOperandDims.idxOf 0,
        List.idxOf_lt_length_iff.2 (by decide)⟩ = ix2 n 0 := by
      funext b; refine Fin.ext ?_
      match b with
      | ⟨0, _⟩ => rfl
      | ⟨1, _⟩ => rfl
    rw [e, h0, WordCmp.toInt_ofNat_of_lt (by omega)]
  have s1 : scatter_S1024x512_S1024x2_S1024_n_01_01_1.start (ix1 n) c 1 = ((p n).val : ℤ) := by
    unfold ScatterDims.start
    rw [dif_pos (by decide)]
    have e : scatter_S1024x512_S1024x2_S1024_n_01_01_1.siIdx (ix1 n) ⟨scatter_S1024x512_S1024x2_S1024_n_01_01_1.scatterDimsToOperandDims.idxOf 1,
        List.idxOf_lt_length_iff.2 (by decide)⟩ = ix2 n 1 := by
      funext b; refine Fin.ext ?_
      match b with
      | ⟨0, _⟩ => rfl
      | ⟨1, _⟩ => rfl
    rw [e, h1, WordCmp.toInt_ofNat_of_lt (by have h := (p n).isLt; omega)]
  have hin : ∀ e, 0 ≤ scatter_S1024x512_S1024x2_S1024_n_01_01_1.start (ix1 n) c e + scatter_S1024x512_S1024x2_S1024_n_01_01_1.window (ix1 n) e
      ∧ scatter_S1024x512_S1024x2_S1024_n_01_01_1.start (ix1 n) c e + scatter_S1024x512_S1024x2_S1024_n_01_01_1.window (ix1 n) e < S1024x512.size e := by
    intro e
    rw [hw]
    match e with
    | ⟨0, _⟩ =>
      rw [show (⟨0, _⟩ : Fin S1024x512.rank) = 0 from rfl, s0]
      show 0 ≤ (n.val : ℤ) + ((0 : ℕ) : ℤ) ∧ (n.val : ℤ) + ((0 : ℕ) : ℤ) < ((1024 : ℕ) : ℤ)
      omega
    | ⟨1, _⟩ =>
      have h := (p n).isLt
      rw [show (⟨1, _⟩ : Fin S1024x512.rank) = 1 from rfl, s1]
      show 0 ≤ ((p n).val : ℤ) + ((0 : ℕ) : ℤ) ∧ ((p n).val : ℤ) + ((0 : ℕ) : ℤ) < ((512 : ℕ) : ℤ)
      omega
  unfold ScatterDims.resultIdx?
  rw [dif_pos hin]
  congr 1
  funext e
  refine Fin.ext ?_
  match e with
  | ⟨0, _⟩ =>
    show (scatter_S1024x512_S1024x2_S1024_n_01_01_1.start (ix1 n) c 0 + scatter_S1024x512_S1024x2_S1024_n_01_01_1.window (ix1 n) 0).toNat = _
    rw [s0, hw]
    show ((n.val : ℤ) + ((0 : ℕ) : ℤ)).toNat = n.val
    omega
  | ⟨1, _⟩ =>
    show (scatter_S1024x512_S1024x2_S1024_n_01_01_1.start (ix1 n) c 1 + scatter_S1024x512_S1024x2_S1024_n_01_01_1.window (ix1 n) 1).toNat = _
    rw [s1, hw]
    show (((p n).val : ℤ) + ((0 : ℕ) : ℤ)).toNat = (p n).val
    omega

/-- The scatter of one update per row. -/
theorem scatter_apply (A : I S1024x512) (c : I S1024x2) (v : I S1024) (p : Fin 1024 → Fin 512) (h0 : ∀ n : Fin 1024, c (ix2 n 0) = BitVec.ofNat 32 n.val)
    (h1 : ∀ n, c (ix2 n 1) = BitVec.ofNat 32 (p n).val) (n : Fin 1024) (l : Fin 512) :
    Host.scatter scatter_S1024x512_S1024x2_S1024_n_01_01_1 (fun _ b => b) A c v (ix2 n l) = if l = p n then v (ix1 n) else A (ix2 n l) := by
  classical
  have hf : Host.scatter scatter_S1024x512_S1024x2_S1024_n_01_01_1 (fun _ b => b) A c v
      = (List.finRange S1024.numel).foldl (fun r k => fun z => if z = ix2 (S1024.rowMajor.symm k 0) (p (S1024.rowMajor.symm k 0)) then v (S1024.rowMajor.symm k) else r z) A := by
    unfold Host.scatter
    congr 1
    funext r k
    have e : scatter_S1024x512_S1024x2_S1024_n_01_01_1.resultIdx? (S1024.rowMajor.symm k) c
        = some (ix2 (S1024.rowMajor.symm k 0) (p (S1024.rowMajor.symm k 0))) :=
      (congrArg (fun i => scatter_S1024x512_S1024x2_S1024_n_01_01_1.resultIdx? i c) (eq_ix1 (S1024.rowMajor.symm k))).trans
        (result_eq c p h0 h1 (S1024.rowMajor.symm k 0))
    rw [e]
    funext z
    by_cases h : z = ix2 (S1024.rowMajor.symm k 0) (p (S1024.rowMajor.symm k 0))
    · exact (if_pos h).trans (if_pos h).symm
    · exact (if_neg h).trans (if_neg h).symm
  have hg : Function.Injective (fun k : Fin S1024.numel => (ix2 (S1024.rowMajor.symm k 0) (p (S1024.rowMajor.symm k 0)) : S1024x512.Idx)) := by
    intro k k' e
    have e0 : S1024.rowMajor.symm k 0 = S1024.rowMajor.symm k' 0 := congrFun e 0
    apply S1024.rowMajor.symm.injective
    rw [eq_ix1 (S1024.rowMajor.symm k), eq_ix1 (S1024.rowMajor.symm k'), e0]
  have hw := foldl_writes (fun k : Fin S1024.numel => (ix2 (S1024.rowMajor.symm k 0) (p (S1024.rowMajor.symm k 0)) : S1024x512.Idx)) hg
    (fun k => v (S1024.rowMajor.symm k)) (List.finRange S1024.numel) A (S1024.rowMajor (ix1 n))
  rw [hf]
  by_cases hl : l = p n
  · rw [if_pos hl, hl]
    have h := hw.1 (List.mem_finRange _)
    simp only [Equiv.symm_apply_apply] at h
    exact h
  · rw [if_neg hl]
    refine hw.2 _ fun k e => hl ?_
    have e0 : n = S1024.rowMajor.symm k 0 := congrFun e 0
    have e1 : l = p (S1024.rowMajor.symm k 0) := congrFun e 1
    rw [e1, e0]

theorem chains_apply (n : Fin 1024) : chains (ix1 n) = BitVec.ofNat 32 n.val := rfl

theorem cols2_apply (a c : I S1024x1) (n : Fin 1024) : cols2 a c (ix2 n 0) = a (ix2 n 0) ∧ cols2 a c (ix2 n 1) = c (ix2 n 0) := by
  pointwise [cols2]

theorem cols3_apply (a c e : I S1024x1) (n : Fin 1024) :
    cols3 a c e (ix2 n 0) = a (ix2 n 0) ∧ cols3 a c e (ix2 n 1) = c (ix2 n 0) ∧ cols3 a c e (ix2 n 2) = e (ix2 n 0) := by
  pointwise [cols3]

/-- The mutants at an index. -/
theorem mutants_apply {x : Fin 512 → Fin 20} {X : I S512} (hX : ∀ l, X (ix1 l) = BitVec.ofNat 32 (x l).val) {P A : I S1024}
    {p : Fin 1024 → Fin 512} {a : Fin 1024 → Fin 20} (hp : ∀ n, P (ix1 n) = BitVec.ofNat 32 (p n).val)
    (ha : ∀ n, A (ix1 n) = BitVec.ofNat 32 (a n).val) (n : Fin 1024) (l : Fin 512) :
    mutants X P A (ix2 n l) = BitVec.ofNat 32 (Function.update x (p n) (a n) l).val := by
  unfold mutants
  rw [scatter_apply _ _ _ p (fun n => (cols2_apply _ _ n).1.trans (col_apply (by omega) (chains_apply n) _))
    (fun n => (cols2_apply _ _ n).2.trans (col_apply (by have := (p n).isLt; omega) (hp n) _))]
  by_cases h : l = p n
  · rw [if_pos h, ha, h, Function.update_self]
  · rw [if_neg h, Function.update_of_ne h, ← hX l]
    pointwise

end Cert.ReferenceIdeal.Stage

end
-- ==== Proof.RefSoft.lean ====
/- The reference's two softmaxes, over finite logits: the maximum that each subtracts cancels. -/
module

public import proofs.«01_k».proof.Proof.RefRead

@[expose] public section

set_option maxRecDepth 16384

noncomputable section

namespace Cert.ReferenceIdeal.Stage

open Idealize.ShloMosaic
open Cert.ReferenceIdeal Cert.ReferenceIdeal.Gen Cert.Spec

/-- A softmax does not see a shift. -/
theorem shift_cancel {n : ℕ} (f : Fin n → ℝ) (M : ℝ) (j : Fin n) :
    Real.exp (f j - M) / ∑ i, Real.exp (f i - M) = Real.exp (f j) / ∑ i, Real.exp (f i) := by
  simp only [Real.exp_sub]
  rw [← Finset.sum_div, div_div_div_cancel_right₀ (Real.exp_pos M).ne']

/-- A position and a token as a flat index. -/
def flatEquiv : Fin 512 × Fin 20 ≃ Fin 10240 where
  toFun q := Arg.flat q.1 q.2
  invFun k := (Arg.pos k, Arg.tok k)
  left_inv q := Prod.ext (Arg.pos_flat _ _) (Arg.tok_flat _ _)
  right_inv k := Arg.flat_pos_tok k

/-- A sum over the flat indices. -/
theorem sum_flat (f : Fin 512 → Fin 20 → ℝ) : ∑ k, f (Arg.pos k) (Arg.tok k) = ∑ l, ∑ a, f l a := by
  rw [← Fintype.sum_prod_type' f]
  exact (flatEquiv.sum_comp fun k => f (Arg.pos k) (Arg.tok k)).symm.trans
    (Finset.sum_congr rfl fun q _ => by show f (Arg.pos (Arg.flat q.1 q.2)) (Arg.tok (Arg.flat q.1 q.2)) = _; rw [Arg.pos_flat, Arg.tok_flat])

/-- The partition function as a sum over the flat indices. -/
theorem sum_exp (w : Fin 20 → Fin 64 → ℝ) (b : Fin 64 → ℝ) (y : Fin 512 → Fin 20) :
    ∑ k, Real.exp (lg w b (Arg.tok k) (y (Arg.pos k))) = Z w b y :=
  sum_flat fun l a => Real.exp (lg w b a (y l))

theorem shift1_at (d : R S512x20) (j : Fin 10240) : shift1 d (ix1 j) = logits d (ix1 j)
    - max (Ideal.ofBits .f32 4286578688#32) (Finset.fold max (Ideal.ofBits .f32 4286578688#32) (fun k => logits d (ix1 k)) Finset.univ) := by
  pointwise [shift1]

theorem shift1_apply {d : R S512x20} {f : Fin 10240 → ℝ} (hd : ∀ j, logits d (ix1 j) = (f j : EReal)) :
    ∃ M : ℝ, ∀ j, shift1 d (ix1 j) = ((f j - M : ℝ) : EReal) := by
  obtain ⟨k, hk⟩ := Arg.exists_first (fun k => logits d (ix1 k)) (by norm_num)
  refine ⟨f k, fun j => ?_⟩
  rw [shift1_at, Arg.ofBits_bot, Arg.fold_max hk, max_eq_right bot_le, hd, hd, Coe.sub]

theorem soft1_at (z : R S10240) (l : Fin 512) (a : Fin 20) : soft1 z (ix2 l a)
    = Ideal.div (Ideal.exp (z (ix1 (Arg.flat l a)))) (∑ k, Ideal.exp (z (ix1 k))) := by
  pointwise [soft1]
  rfl

theorem sum_pos' (f : Fin 10240 → ℝ) : 0 < ∑ k, Real.exp (f k) :=
  Finset.sum_pos (fun _ _ => Real.exp_pos _) ⟨0, Finset.mem_univ 0⟩

/-- The source's softmax. -/
theorem soft1_apply {d : R S512x20} {f : Fin 10240 → ℝ} (hd : ∀ j, logits d (ix1 j) = (f j : EReal)) (l : Fin 512) (a : Fin 20) :
    soft1 (shift1 d) (ix2 l a) = ((Real.exp (f (Arg.flat l a)) / ∑ k, Real.exp (f k) : ℝ) : EReal) := by
  obtain ⟨M, hM⟩ := shift1_apply hd
  rw [soft1_at]
  simp only [hM, Coe.exp, Coe.sum]
  rw [Coe.div (sum_pos' _).ne', shift_cancel]

/-- A maximum over axes, from the least value: the greatest entry that it takes. -/
theorem reduce_max {s t u : Shape} {axes : List (Fin s.rank)} (v : FVec Ideal s .f32) (init : FVec Ideal u .f32) (h : s.ReducesTo axes t)
    (hu : 0 < u.numel) (j : t.Idx) (i : s.Idx) (h0 : init (Shape.Idx.first hu) = (⊥ : EReal)) (hi : h.drop i = j)
    (hall : ∀ e, h.drop e = j → (v e : EReal) ≤ v i) : Host.reduce FloatOps.maximumf v init h hu j = v i := by
  rw [Host.reduce_eq_fold, h0]
  refine le_antisymm ((Finset.fold_max_le (β := EReal) _).2 ⟨bot_le, fun e he => hall e (Finset.mem_filter.1 he).2⟩) ?_
  exact (Finset.le_fold_max (β := EReal) _).2 (Or.inr ⟨i, Finset.mem_filter.2 ⟨Finset.mem_univ i, hi⟩, le_rfl⟩)

theorem drop_lane (i : S1024x10240.Idx) : reducesTo_S1024x10240_S1024_d1.drop i = ix1 (i 0) := by
  funext e
  refine Fin.ext ?_
  match e with
  | ⟨0, _⟩ => exact Shape.ReducesTo.drop_apply_val_of_eq _ i 0 0

/-- The maximum of each row. -/
def rowMax (L : R S1024x10240) : R S1024 :=
  Host.reduce FloatOps.maximumf L (constant S_ .f32 0xFF800000#32) reducesTo_S1024x10240_S1024_d1 h_S_

theorem rowMax_def (L : R S1024x10240) :
    rowMax L = Host.reduce FloatOps.maximumf L (constant S_ .f32 0xFF800000#32) reducesTo_S1024x10240_S1024_d1 h_S_ := rfl

theorem rowMax_apply (L : R S1024x10240) (n : Fin 1024) (k : Fin 10240) (hk : Arg.IsFirst (fun j => L (ix2 n j)) k) :
    rowMax L (ix1 n) = L (ix2 n k) := by
  rw [rowMax_def]
  refine reduce_max _ _ _ _ _ (ix2 n k) Arg.ofBits_bot (drop_lane _) fun i hi => ?_
  have e0 : i 0 = n := congrFun ((drop_lane i).symm.trans hi) 0
  have ei : i = ix2 n (i 1) := (eq_ix2 i).trans (congrArg (fun a => ix2 a (i 1)) e0)
  exact (le_of_eq (congrArg L ei)).trans (hk.1 (i 1))

/-- The exponentials, the rows' maxima any vector. -/
def expBy (L : R S1024x10240) (H : R S1024) : R S1024x10240 :=
  Host.exp (subf L (broadcastInDim S1024x10240 ![0, 1] bcast_S1024x1_S1024x10240_0_1 (broadcastInDim S1024x1 ![0] bcast_S1024_S1024x1_0 (maximumf (broadcastInDim S1024 ![] bcast_S_S1024 (constant S_ .f32 0xFF800000#32)) H))))

theorem expBy_at (L : R S1024x10240) (H : R S1024) (n : Fin 1024) (j : Fin 10240) :
    expBy L H (ix2 n j) = Ideal.exp (L (ix2 n j) - max (Ideal.ofBits .f32 4286578688#32) (H (ix1 n))) := by
  pointwise [expBy]

theorem expG_def (L : R S1024x10240) : expG L = expBy L (rowMax L) := rfl

theorem expG_apply {L : R S1024x10240} {n : Fin 1024} {f : Fin 10240 → ℝ} (hL : ∀ j, L (ix2 n j) = (f j : EReal)) :
    ∃ M : ℝ, ∀ j, expG L (ix2 n j) = ((Real.exp (f j - M) : ℝ) : EReal) := by
  obtain ⟨k, hk⟩ := Arg.exists_first (fun k => L (ix2 n k)) (by norm_num)
  refine ⟨f k, fun j => ?_⟩
  rw [expG_def, expBy_at, Arg.ofBits_bot, rowMax_apply L n k hk, max_eq_right bot_le, hL, hL, Coe.sub, Coe.exp]

theorem softG_at (e : R S1024x10240) (n : Fin 1024) (l : Fin 512) (a : Fin 20) : softG e (ix3 n l a)
    = Ideal.div (e (ix2 n (Arg.flat l a))) (∑ k, e (ix2 n k)) := by
  pointwise [softG]
  rfl

/-- The mutants' softmaxes. -/
theorem softG_apply {L : R S1024x10240} {n : Fin 1024} {f : Fin 10240 → ℝ} (hL : ∀ j, L (ix2 n j) = (f j : EReal)) (l : Fin 512) (a : Fin 20) :
    softG (expG L) (ix3 n l a) = ((Real.exp (f (Arg.flat l a)) / ∑ k, Real.exp (f k) : ℝ) : EReal) := by
  obtain ⟨M, hM⟩ := expG_apply hL
  rw [softG_at]
  simp only [hM, Coe.sum]
  rw [Coe.div (sum_pos' _).ne', shift_cancel]

end Cert.ReferenceIdeal.Stage

end
-- ==== Proof.RefPick.lean ====
/- The reference's search for the greatest perturbed logit of a row. -/
module

public import proofs.«01_k».proof.Proof.RefSoft

@[expose] public section

set_option maxRecDepth 16384

noncomputable section

namespace Cert.ReferenceIdeal.Stage

open Idealize.ShloMosaic
open Cert.ReferenceIdeal Cert.ReferenceIdeal.Gen Cert.Spec

/-- A search for the greatest entry ends at the first greatest one. -/
theorem argReduce_first {s t u : Shape} {axes : List (Fin s.rank)} (x : FVec Ideal s .f32) (y : IVec s 32) (ix : FVec Ideal u .f32) (iy : IVec u 32)
    (h : s.ReducesTo axes t) (hu : 0 < u.numel) (j : t.Idx) {m : ℕ} {v : Fin m → EReal} {k : Fin m} (hv : Arg.IsFirst v k) (hm : m < 2 ^ 31)
    (hix : ix (Shape.Idx.first hu) = (⊥ : EReal)) (hiy : iy (Shape.Idx.first hu) = 0#32)
    (hall : ∀ i, h.drop i = j → ∃ a : Fin m, x i = v a ∧ y i = BitVec.ofNat 32 a.val)
    (i : s.Idx) (hi : h.drop i = j) (hx : x i = v k) (hy : y i = BitVec.ofNat 32 k.val) :
    (Host.argReduce reducer_argmax_f32_i32 x y ix iy h hu j).2 = BitVec.ofNat 32 k.val := by
  rw [Ideal.argReduce_eq_reduce2, Host.reduce2_eq_foldl_fiber, hix, hiy]
  refine congrArg Prod.snd (Arg.foldl_first hv hm _ ?_ ?_)
  · intro q hq
    unfold Host.argReduceFiber at hq
    obtain ⟨e, he, rfl⟩ := List.mem_map.1 hq
    obtain ⟨a, h1, h2⟩ := hall _ (by simpa using (List.mem_filter.1 he).2)
    exact ⟨a, Prod.ext h1 h2⟩
  · unfold Host.argReduceFiber
    refine List.mem_map.2 ⟨s.rowMajor i, List.mem_filter.2 ⟨List.mem_finRange _, ?_⟩, ?_⟩
    · rw [Equiv.symm_apply_apply, hi]; simp
    · rw [Equiv.symm_apply_apply]
      exact Prod.ext hx hy

/-- A perturbed logit. -/
theorem perturbed_apply (lr : R S1x10240) (g : R S1024x10240) (n : Fin 1024) (j : Fin 10240) :
    addf (F := Ideal) (φ := .f32) (broadcastInDim S1024x10240 ![0, 1] bcast_S1x10240_S1024x10240_0_1 lr) g (ix2 n j) = lr (ix2 0 j) + g (ix2 n j) := by
  pointwise

theorem index_apply (n : Fin 1024) (j : Fin 10240) : iotaInDim S1024x10240 32 1 (ix2 n j) = BitVec.ofNat 32 j.val := rfl

theorem pick_def (lr : R S1x10240) (g : R S1024x10240) : pick lr g = fun j =>
    (Host.argReduce reducer_argmax_f32_i32 (addf (broadcastInDim S1024x10240 ![0, 1] bcast_S1x10240_S1024x10240_0_1 lr) g) (iotaInDim S1024x10240 32 1)
      (constant S_ .f32 0xFF800000#32) (constantI S_ 32 0#32) reducesTo_S1024x10240_S1024_d1 h_S_ j).2 := rfl

theorem pick_at (lr : R S1x10240) (g : R S1024x10240) (j : S1024.Idx) : pick lr g j =
    (Host.argReduce reducer_argmax_f32_i32 (addf (broadcastInDim S1024x10240 ![0, 1] bcast_S1x10240_S1024x10240_0_1 lr) g) (iotaInDim S1024x10240 32 1)
      (constant S_ .f32 0xFF800000#32) (constantI S_ 32 0#32) reducesTo_S1024x10240_S1024_d1 h_S_ j).2 := congrFun (pick_def lr g) j

/-- The search's result. -/
theorem pick_apply (lr : R S1x10240) (g : R S1024x10240) (n : Fin 1024) (k : Fin 10240)
    (hk : Arg.IsFirst (fun j => lr (ix2 0 j) + g (ix2 n j)) k) : pick lr g (ix1 n) = BitVec.ofNat 32 k.val := by
  refine (pick_at lr g (ix1 n)).trans ?_
  refine argReduce_first _ _ _ _ _ _ _ hk (by norm_num) Arg.ofBits_bot rfl ?_ (ix2 n k) (drop_lane _) (perturbed_apply lr g n k) (index_apply n k)
  intro i hi
  have e0 : i 0 = n := congrFun ((drop_lane i).symm.trans hi) 0
  have ei : i = ix2 n (i 1) := (eq_ix2 i).trans (congrArg (fun a => ix2 a (i 1)) e0)
  exact ⟨i 1, (congrArg _ ei).trans (perturbed_apply lr g n (i 1)), (congrArg _ ei).trans (index_apply n (i 1))⟩

end Cert.ReferenceIdeal.Stage

end
-- ==== Proof.RefValue.lean ====
/- The reference's results over real weights and tokens in range. -/
module

public import proofs.«01_k».proof.Proof.RefIndex
public import proofs.«01_k».proof.Proof.RefPick
public import proofs.«01_k».proof.Proof.RefSoft

@[expose] public section

set_option maxRecDepth 16384

noncomputable section

namespace Cert.ReferenceIdeal.Stage

open Idealize.ShloMosaic
open Cert.ReferenceIdeal Cert.ReferenceIdeal.Gen Cert.Spec

theorem logitRow_at (d : R S512x20) (j : Fin 10240) : logitRow d (ix2 0 j) = logits d (ix1 j) := by
  pointwise [logitRow]

theorem rise_at (s : R S1024) (s1 : R S_) (n : Fin 1024) : rise s s1 (ix1 n) = s (ix1 n) - s1 ix0 := by
  pointwise [rise]

/-- An acceptance ratio, its two probabilities read at the chain's change. -/
theorem accept_at (r : R S1024) (qm : R S1024x512x20) (qs : R S512x20) (P A : I S1024) (n : Fin 1024) (p : Fin 512) (a : Fin 20)
    (hp : P (ix1 n) = BitVec.ofNat 32 p.val) (ha : A (ix1 n) = BitVec.ofNat 32 a.val) :
    accept r qm qs P A (ix1 n) = Ideal.exp (r (ix1 n)) * Ideal.div (qm (ix3 n p a)) (qs (ix2 p a)) := by
  have hp' := col_apply (by omega) hp 512#32
  have ha' := col_apply (by omega) ha 20#32
  have hn' := col_apply (by omega) (chains_apply n) 1024#32
  have h3 := cols3_apply (col chains 1024#32) (col P 512#32) (col A 20#32) n
  have h2 := cols2_apply (col P 512#32) (col A 20#32) n
  have e3 := gather3_apply qm (cols3 (col chains 1024#32) (col P 512#32) (col A 20#32)) n p a (h3.1.trans hn') (h3.2.1.trans hp') (h3.2.2.trans ha')
  have e2 := gather2_apply qs (cols2 (col P 512#32) (col A 20#32)) n p a (h2.1.trans hp') (h2.2.trans ha')
  rw [← e3, ← e2]
  rfl

section
variable {x : Fin 512 → Fin 20} {w : Fin 20 → Fin 64 → ℝ} {b : Fin 64 → ℝ} {k : Fin 1024 → Fin 10240}
  {X : I S512} {U : R S1024x10240} {W : R S20x64} {B : R S64}
  (hX : ∀ l, X (ix1 l) = BitVec.ofNat 32 (x l).val) (hW : ∀ a h, W (ix2 a h) = (w a h : EReal)) (h0 : ∀ a h, w a h ≠ 0)
  (hB : ∀ h, B (ix1 h) = (b h : EReal))
  (hk : ∀ n, Arg.IsFirst (fun j => (lg w b (Arg.tok j) (x (Arg.pos j)) : EReal)
    - Ideal.log (0 - Ideal.log (max (U (ix2 n j)) (Ideal.ofBits .f32 814313567#32)))) (k n))
include hX hW h0 hB hk

theorem picked_apply (n : Fin 1024) : picked X U W B (ix1 n) = BitVec.ofNat 32 (k n).val := by
  unfold picked
  refine pick_apply _ _ n _ ?_
  have e : (fun j => logitRow (delta1 (oneHot X) W B) (ix2 0 j) + noise U (ix2 n j))
      = fun j => (lg w b (Arg.tok j) (x (Arg.pos j)) : EReal) - Ideal.log (0 - Ideal.log (max (U (ix2 n j)) (Ideal.ofBits .f32 814313567#32))) := by
    funext j
    rw [logitRow_at, logits_apply hX hW h0 hB, noise_apply, Arg.gumbel]
  rw [e]
  exact hk n

theorem resMutants_apply (n : Fin 1024) (l : Fin 512) : resMutants X U W B (ix2 n l)
    = BitVec.ofNat 32 (Function.update x (Arg.pos (k n)) (Arg.tok (k n)) l).val :=
  mutants_apply hX (fun n => posOf_apply (picked_apply hX hW h0 hB hk n)) (fun n => tokOf_apply (picked_apply hX hW h0 hB hk n)) n l

theorem resScore_apply (n : Fin 1024) : resScore X U W B (ix1 n)
    = ((score w b (Function.update x (Arg.pos (k n)) (Arg.tok (k n))) : ℝ) : EReal) :=
  scoreG_apply (y := fun n => Function.update x (Arg.pos (k n)) (Arg.tok (k n))) (resMutants_apply hX hW h0 hB hk) hW hB n

theorem resAccept_apply (n : Fin 1024) : resAccept X U W B (ix1 n) = ((ratio w b x (Arg.pos (k n)) (Arg.tok (k n)) : ℝ) : EReal) := by
  have hY := resMutants_apply hX hW h0 hB hk
  unfold resAccept
  rw [accept_at _ _ _ _ _ n (Arg.pos (k n)) (Arg.tok (k n)) (posOf_apply (picked_apply hX hW h0 hB hk n)) (tokOf_apply (picked_apply hX hW h0 hB hk n)),
    rise_at, scoreG_apply (y := fun n => Function.update x (Arg.pos (k n)) (Arg.tok (k n))) hY hW hB n, score1_apply hX hW hB,
    soft1_apply (logits_apply hX hW h0 hB),
    softG_apply (f := fun j => lg w b (Arg.tok j) (Function.update x (Arg.pos (k n)) (Arg.tok (k n)) (Arg.pos j))) (fun j => ?_)]
  · simp only [Arg.pos_flat, Arg.tok_flat, Function.update_self, lg_self, Real.exp_zero]
    rw [sum_exp, sum_exp, Coe.sub, Coe.exp, Coe.div (div_pos (Real.exp_pos _) (Z_pos w b x)).ne', Coe.mul]
    rfl
  · rw [logitsG_at, deltaG_apply (y := fun n => Function.update x (Arg.pos (k n)) (Arg.tok (k n))) hY hW h0 hB, Coe.ofBits_T, Coe.div T_pos.ne']
    rfl

end

end Cert.ReferenceIdeal.Stage

end
-- ==== Proof.Inputs.lean ====
/- What the precondition says of the arguments: tokens below twenty, finite weights, and no zero among the hidden layer's. -/
module

public import proofs.«01_k».proof.Pre_weights_and_tokens
public import proofs.«01_k».proof.Proof.Coe
public import Idealize.ShloMosaic.Lib.Pointwise

@[expose] public section

set_option maxRecDepth 16384

noncomputable section

namespace Cert.Inputs

open Idealize.ShloMosaic
open Cert.Pre_weights_and_tokens

instance facts : Facts where
  bcast_S_S512 := by decide
  bcast_S_S20x64 := by decide
  bcast_S_S64 := by decide
  bcast_S512_S512x1x1_0 := by decide
  bcast_S20x64_S1x20x64_1_2 := by decide
  bcast_S512x1x1_S512x20x64_0_1_2 := by decide
  bcast_S1x20x64_S512x20x64_0_1_2 := by decide
  bcast_S64_S1x1x64_2 := by decide
  bcast_S1x1x64_S512x20x64_0_1_2 := by decide

/-- The precondition at an index. -/
theorem at_index (X : IVec S512 32) (U : FVec Ideal S1024x10240 .f32) (V : FVec Ideal S1024 .f32) (W : FVec Ideal S20x64 .f32) (B : FVec Ideal S64 .f32)
    (l : Fin 512) (a : Fin 20) (h : Fin 64) : fn (F := Ideal) X U V W B (ix3 l a h)
      = IntOp.andi (IntOp.andi (IntOp.andi (IntOp.cmpi .sge (X (ix1 l)) 0#32) (IntOp.cmpi .slt (X (ix1 l)) 20#32))
          (IntOp.andi (FloatOps.cmpf (F := Ideal) (φ := .f32) .olt (max (W (ix2 a h) : EReal) (-W (ix2 a h))) (Ideal.ofBits .f32 2139095040#32))
            (FloatOps.cmpf (F := Ideal) (φ := .f32) .une (W (ix2 a h)) (Ideal.ofBits .f32 0#32))))
          (FloatOps.cmpf (F := Ideal) (φ := .f32) .olt (max (B (ix1 h) : EReal) (-B (ix1 h))) (Ideal.ofBits .f32 2139095040#32)) := by
  pointwise [fn, fn_part1]
  rfl

theorem ofBits_top : Ideal.ofBits .f32 2139095040#32 = ⊤ := by
  simp [Ideal.ofBits, Ideal.ieee]

/-- A value of magnitude below the greatest is a real. -/
theorem real_of_lt {v : EReal} (h : max v (-v) < ⊤) : ∃ r : ℝ, v = (r : EReal) := by
  have h1 : v ≠ ⊤ := fun e => by rw [e] at h; simp at h
  have h2 : v ≠ ⊥ := fun e => by rw [e] at h; simp at h
  exact ⟨v.toReal, (EReal.coe_toReal h1 h2).symm⟩

theorem one_of_bool {p : Bool} (h : BitVec.ofBool p = 1#1) : p = true := by
  cases p
  · exact absurd h (by decide)
  · rfl

theorem and_one {a b : BitVec 1} : IntOp.andi a b = 1#1 ↔ a = 1#1 ∧ b = 1#1 := by
  revert a b; decide

theorem olt_one {u v : EReal} (h : FloatOps.cmpf (F := Ideal) (φ := .f32) .olt u v = 1#1) : u < v := by
  rw [Ideal.cmpf_def] at h
  simpa using one_of_bool h

theorem une_one {u v : EReal} (h : FloatOps.cmpf (F := Ideal) (φ := .f32) .une u v = 1#1) : u ≠ v := by
  rw [Ideal.cmpf_def] at h
  simpa using one_of_bool h

/-- A word between zero and twenty is a token. -/
theorem token {v : BitVec 32} (h0 : IntOp.cmpi .sge v 0#32 = 1#1) (h1 : IntOp.cmpi .slt v 20#32 = 1#1) : ∃ t : Fin 20, v = BitVec.ofNat 32 t.val := by
  have h1' : v.toInt < 20 := by simpa [BitVec.slt] using one_of_bool h1
  have h0' : 0 ≤ v.toInt := by simpa [BitVec.sle] using one_of_bool h0
  have e : v.toInt = v.toNat := BitVec.toInt_eq_toNat_of_lt (by
    by_contra hc
    rw [BitVec.toInt_eq_toNat_cond, if_neg hc] at h0'
    have := v.isLt
    omega)
  refine ⟨⟨v.toNat, by omega⟩, ?_⟩
  simp

/-- What the precondition says. -/
theorem decode {X : IVec S512 32} {U : FVec Ideal S1024x10240 .f32} {V : FVec Ideal S1024 .f32} {W : FVec Ideal S20x64 .f32} {B : FVec Ideal S64 .f32}
    (H : fn (F := Ideal) X U V W B = fun _ => 1#1) :
    (∃ x : Fin 512 → Fin 20, ∀ l, X (ix1 l) = BitVec.ofNat 32 (x l).val)
      ∧ (∃ w : Fin 20 → Fin 64 → ℝ, (∀ a h, W (ix2 a h) = (w a h : EReal)) ∧ ∀ a h, w a h ≠ 0)
      ∧ ∃ b : Fin 64 → ℝ, ∀ h, B (ix1 h) = (b h : EReal) := by
  have all := fun l a h => (at_index X U V W B l a h).symm.trans (congrFun H (ix3 l a h))
  simp only [and_one] at all
  have hX : ∀ l, ∃ t : Fin 20, X (ix1 l) = BitVec.ofNat 32 t.val := fun l => token (all l 0 0).1.1.1 (all l 0 0).1.1.2
  have hW : ∀ a h, ∃ r : ℝ, W (ix2 a h) = (r : EReal) := fun a h => real_of_lt (ofBits_top ▸ olt_one (all 0 a h).1.2.1)
  have hB : ∀ h, ∃ r : ℝ, B (ix1 h) = (r : EReal) := fun h => real_of_lt (ofBits_top ▸ olt_one (all 0 0 h).2)
  choose x hx using hX
  choose w hw using hW
  choose b hb using hB
  refine ⟨⟨x, hx⟩, ⟨w, hw, fun a h e => une_one (all 0 a h).1.2.2 ?_⟩, ⟨b, hb⟩⟩
  rw [hw, e]
  simp [Ideal.ofBits, Ideal.ieee]

end Cert.Inputs

end
-- ==== Proof.Agree.lean ====
/- Under the precondition the reference's four results are what the kernel leaves. -/
module

public import proofs.«01_k».proof.Proof.KernelRead
public import proofs.«01_k».proof.Proof.RefRun
public import proofs.«01_k».proof.Proof.RefValue
public import proofs.«01_k».proof.Proof.Inputs

@[expose] public section

set_option maxRecDepth 16384

noncomputable section

namespace Cert.Agree

open Idealize.ShloMosaic
open Idealize.ShloMosaic.TcCoe
open Cert.KernelIdeal Cert.KernelIdeal.Gen Cert.KernelIdeal.Value Cert.Spec
open Cert.ReferenceIdeal.Stage (resAccept resMutants resScore resMutants_apply resScore_apply resAccept_apply)

theorem results (m : (ℓ : Loc nD τ sig) → Buf (Elt Ideal) ℓ) (ρ : Dev nD → PrngReg) (c : Dev nD)
    (X : IVec S512 32) (U : FVec Ideal S1024x10240 .f32) (V : FVec Ideal S1024 .f32) (W : FVec Ideal S20x64 .f32) (B : FVec Ideal S64 .f32)
    (eX : X = m ((c : Thread nD τ).loc main_arg0)) (eU : U = m ((c : Thread nD τ).loc main_arg1)) (eV : V = m ((c : Thread nD τ).loc main_arg2))
    (eW : W = m ((c : Thread nD τ).loc main_arg3)) (eB : B = m ((c : Thread nD τ).loc main_arg4))
    (H : Cert.Pre_weights_and_tokens.fn (F := Ideal) X U V W B = fun _ => 1#1) :
    resAccept X U W B = W5 m ρ c (Proc.devRef .tc main_v0_0)
      ∧ cmpf (F := Ideal) (φ := .f32) .olt (resAccept X U W B) V = W5 m ρ c (Proc.devRef .tc main_v0_1)
      ∧ resMutants X U W B = W5 m ρ c (Proc.devRef .tc main_v0_2)
      ∧ resScore X U W B = W5 m ρ c (Proc.devRef .tc main_v0_3) := by
  obtain ⟨⟨x, hx⟩, ⟨w, hw, h0⟩, ⟨b, hb⟩⟩ := Inputs.decode H
  choose k hk using fun n => Arg.exists_first (noisyRow w b x U n) (by norm_num)
  have hk' : ∀ n, Arg.IsFirst (fun j => (lg w b (Arg.tok j) (x (Arg.pos j)) : EReal)
    - Ideal.log (0 - Ideal.log (max (U (ix2 n j)) (Ideal.ofBits .f32 814313567#32)))) (k n) := hk
  have ha : resAccept X U W B = fun z => ((ratio w b x (Arg.pos (k (z 0))) (Arg.tok (k (z 0))) : ℝ) : EReal) := by
    funext z
    exact (congrArg (resAccept X U W B) (eq_ix1 z)).trans (resAccept_apply hx hw h0 hb hk' (z 0))
  have hs : resScore X U W B = fun z => ((score w b (Function.update x (Arg.pos (k (z 0))) (Arg.tok (k (z 0)))) : ℝ) : EReal) := by
    funext z
    exact (congrArg (resScore X U W B) (eq_ix1 z)).trans (resScore_apply hx hw h0 hb hk' (z 0))
  have hm : resMutants X U W B = fun z => BitVec.ofNat 32 (Function.update x (Arg.pos (k (z 0))) (Arg.tok (k (z 0))) (z 1)).val := by
    funext z
    exact (congrArg (resMutants X U W B) (eq_ix2 z)).trans (resMutants_apply hx hw h0 hb hk' (z 0) (z 1))
  subst eX eU eV eW eB
  refine ⟨ha.trans (accept_eq m ρ c hx hw hb hk).symm, ?_, hm.trans (mutants_eq m ρ c hx hw hb hk).symm, hs.trans (score_eq m ρ c hx hw hb hk).symm⟩
  rw [flag_eq m ρ c hx hw hb hk, ha]
  funext z
  exact congrArg BitVec.ofBool (decide_eq_decide.2 Iff.rfl)

end Cert.Agree

end
-- ==== Proof.lean ====
/- The proof of the certificate's claims: the frames of the kernel and of its idealization are the generated ones, the reference's
   frame is the run of its one line, and the two programs agree by `Cert.Agree.results`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem

/-- The reference runs, leaves its arguments, and ends quiet. -/
theorem reference_frame : quiescent_ReferenceIdeal := fun m ρ _ =>
  θ_run_mono (Cert.ReferenceIdeal.Line.run m ρ) fun r h =>
    ⟨fun c => (h c).2.2.2.2, Cert.ReferenceIdeal.Line.quiet r.2⟩

/-- The kernel's idealization and the reference agree. -/
theorem agree : algebraic_KernelIdeal_ReferenceIdeal_pre_weights_and_tokens := by
  intro m g m' g' hpre hargs
  have key := fun c => Cert.Agree.results m g c _ _ _ _ _ (hargs c).1 (hargs c).2.1 (hargs c).2.2.1 (hargs c).2.2.2.1 (hargs c).2.2.2.2
    (by rw [(hargs c).1, (hargs c).2.1, (hargs c).2.2.1, (hargs c).2.2.2.1, (hargs c).2.2.2.2]; exact hpre c)
  refine ⟨fun c => Cert.KernelIdeal.Gen.W5 m g c (Proc.devRef .tc Cert.KernelIdeal.main_v0_0),
    fun c => Cert.KernelIdeal.Gen.W5 m g c (Proc.devRef .tc Cert.KernelIdeal.main_v0_1),
    fun c => Cert.KernelIdeal.Gen.W5 m g c (Proc.devRef .tc Cert.KernelIdeal.main_v0_2),
    fun c => Cert.KernelIdeal.Gen.W5 m g c (Proc.devRef .tc Cert.KernelIdeal.main_v0_3), ?_, ?_⟩
  · refine θ_run_mono (Cert.KernelIdeal.Value.run m g) fun r h c => ?_
    exact ⟨h c _ (Cert.KernelIdeal.Gen.mem_uc Cert.KernelIdeal.main_v0_0 (by decide)), h c _ (Cert.KernelIdeal.Gen.mem_uc Cert.KernelIdeal.main_v0_1 (by decide)),
      h c _ (Cert.KernelIdeal.Gen.mem_uc Cert.KernelIdeal.main_v0_2 (by decide)), h c _ (Cert.KernelIdeal.Gen.mem_uc Cert.KernelIdeal.main_v0_3 (by decide)),
      (h c _ (Cert.KernelIdeal.Gen.mem_uc Cert.KernelIdeal.main_arg0 (by decide))).trans (Cert.KernelIdeal.Gen.W5_main_arg0 m g c),
      (h c _ (Cert.KernelIdeal.Gen.mem_uc Cert.KernelIdeal.main_arg1 (by decide))).trans (Cert.KernelIdeal.Gen.W5_main_arg1 m g c),
      (h c _ (Cert.KernelIdeal.Gen.mem_uc Cert.KernelIdeal.main_arg2 (by decide))).trans (Cert.KernelIdeal.Gen.W5_main_arg2 m g c),
      (h c _ (Cert.KernelIdeal.Gen.mem_uc Cert.KernelIdeal.main_arg3 (by decide))).trans (Cert.KernelIdeal.Gen.W5_main_arg3 m g c),
      (h c _ (Cert.KernelIdeal.Gen.mem_uc Cert.KernelIdeal.main_arg4 (by decide))).trans (Cert.KernelIdeal.Gen.W5_main_arg4 m g c)⟩
  · refine θ_run_mono (Cert.ReferenceIdeal.Line.run m' g') fun r h c => ?_
    obtain ⟨a0, a1, a2, a3, rest⟩ := h c
    obtain ⟨k0, k1, k2, k3⟩ := key c
    exact ⟨a0.trans k0, a1.trans k1, a2.trans k2, a3.trans k3, rest⟩

theorem claim : Cert.Claim :=
  ⟨Cert.Kernel.Gen.facts, Cert.KernelIdeal.Gen.facts, Cert.ReferenceIdeal.Gen.facts, Cert.Inputs.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, agree⟩

end Cert.Proof

end
